-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x512 : Shape := ⟨2, ![4096, 512]⟩
abbrev S4096x4096 : Shape := ⟨2, ![4096, 4096]⟩
abbrev S512x64 : Shape := ⟨2, ![512, 64]⟩
abbrev S128x1 : Shape := ⟨2, ![128, 1]⟩
abbrev S256x121 : Shape := ⟨2, ![256, 121]⟩
abbrev S242x1 : Shape := ⟨2, ![242, 1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S128x1 : S_.BroadcastsInDim S128x1 (![] : Fin 0 → Fin S128x1.rank)
  reducesTo_S128x1_S_d0_1 : S128x1.ReducesTo [0, 1] S_
  bcast_S_S256x121 : S_.BroadcastsInDim S256x121 (![] : Fin 0 → Fin S256x121.rank)
  reducesTo_S256x121_S_d0_1 : S256x121.ReducesTo [0, 1] S_
  bcast_S_S242x1 : S_.BroadcastsInDim S242x1 (![] : Fin 0 → Fin S242x1.rank)
  reducesTo_S242x1_S_d0_1 : S242x1.ReducesTo [0, 1] S_

variable [Facts]

def fn_part3 {F : FTy → Type} [FloatOps F] (main_v48 : IVec S_ 1) (main_v49 : FVec F S242x1 .f32) (main_v50 : FVec F S242x1 .f32) : IVec S_ 1 :=
  let main_v51 : IVec S242x1 1 := cmpf .olt main_v49 main_v50
  let main_c_19 : IVec S_ 1 := constantI S_ 1 1#1
  let main_v52 : IVec S_ 1 := (fun x v => Host.reduce IntOp.andi x v reducesTo_S242x1_S_d0_1 h_S_) main_v51 main_c_19
  let main_v53 : IVec S_ 1 := andi main_v48 main_v52
  main_v53

def fn_part2 {F : FTy → Type} [FloatOps F] (main_arg8 : FVec F S512x64 .f32) (main_arg9 : FVec F S128x1 .f32) (main_arg10 : FVec F S256x121 .f32) (main_arg11 : FVec F S242x1 .f32) (main_v33 : IVec S_ 1) : IVec S_ 1 :=
  let main_v34 : FVec F S512x64 .f32 := Host.absf main_arg8
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S256x121 .f32 := Host.absf main_arg10
  let main_cst_16 : FVec F S_ .f32 := constant S_ .f32 0x7F800000#32
  let main_v45 : FVec F S256x121 .f32 := broadcastInDim S256x121 ![] bcast_S_S256x121 main_cst_16
  let main_v46 : IVec S256x121 1 := cmpf .olt main_v44 main_v45
  let main_c_17 : IVec S_ 1 := constantI S_ 1 1#1
  let main_v47 : IVec S_ 1 := (fun x v => Host.reduce IntOp.andi x v reducesTo_S256x121_S_d0_1 h_S_) main_v46 main_c_17
  let main_v48 : IVec S_ 1 := andi main_v43 main_v47
  let main_v49 : FVec F S242x1 .f32 := Host.absf main_arg11
  let main_cst_18 : FVec F S_ .f32 := constant S_ .f32 0x7F800000#32
  let main_v50 : FVec F S242x1 .f32 := broadcastInDim S242x1 ![] bcast_S_S242x1 main_cst_18
  fn_part3 (F := F) main_v48 main_v49 main_v50

def fn_part1 {F : FTy → Type} [FloatOps F] (main_arg5 : FVec F S128x1 .f32) (main_arg6 : FVec F S512x64 .f32) (main_arg7 : FVec F S128x1 .f32) (main_arg8 : FVec F S512x64 .f32) (main_arg9 : FVec F S128x1 .f32) (main_arg10 : FVec F S256x121 .f32) (main_arg11 : FVec F S242x1 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S512x64 .f32 := Host.absf main_arg6
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S4096x512 .f32) (main_arg1 : IVec S4096x4096 32) (main_arg2 : FVec F S512x64 .f32) (main_arg3 : FVec F S128x1 .f32) (main_arg4 : FVec F S512x64 .f32) (main_arg5 : FVec F S128x1 .f32) (main_arg6 : FVec F S512x64 .f32) (main_arg7 : FVec F S128x1 .f32) (main_arg8 : FVec F S512x64 .f32) (main_arg9 : FVec F S128x1 .f32) (main_arg10 : FVec F S256x121 .f32) (main_arg11 : FVec F S242x1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg5 main_arg6 main_arg7 main_arg8 main_arg9 main_arg10 main_arg11 main_v13 main_v16
-- ==== Kernel.lean ====
abbrev S4096x512 : Shape := ⟨2, ![4096, 512]⟩
abbrev S4096x4096 : Shape := ⟨2, ![4096, 4096]⟩
abbrev S512x64 : Shape := ⟨2, ![512, 64]⟩
abbrev S128x1 : Shape := ⟨2, ![128, 1]⟩
abbrev S256x121 : Shape := ⟨2, ![256, 121]⟩
abbrev S242x1 : Shape := ⟨2, ![242, 1]⟩
abbrev S1x512x64 : Shape := ⟨3, ![1, 512, 64]⟩
abbrev S4x512x64 : Shape := ⟨3, ![4, 512, 64]⟩
abbrev S64x1 : Shape := ⟨2, ![64, 1]⟩
abbrev S1x64x1 : Shape := ⟨3, ![1, 64, 1]⟩
abbrev S4x64x1 : Shape := ⟨3, ![4, 64, 1]⟩
abbrev S_ : Shape := ⟨0, ![]⟩
abbrev S4x64x128 : Shape := ⟨3, ![4, 64, 128]⟩
abbrev S4x64x121 : Shape := ⟨3, ![4, 64, 121]⟩
abbrev S1 : Shape := ⟨1, ![1]⟩
abbrev S121x1 : Shape := ⟨2, ![121, 1]⟩
abbrev S4x4096x64 : Shape := ⟨3, ![4, 4096, 64]⟩
abbrev S4096x4 : Shape := ⟨2, ![4096, 4]⟩
abbrev S16x4x1x64 : Shape := ⟨4, ![16, 4, 1, 64]⟩
abbrev S16x1x4 : Shape := ⟨3, ![16, 1, 4]⟩
abbrev S256x512 : Shape := ⟨2, ![256, 512]⟩
abbrev S4x256x64 : Shape := ⟨3, ![4, 256, 64]⟩
abbrev S256x4 : Shape := ⟨2, ![256, 4]⟩
abbrev S1x4x1x64 : Shape := ⟨4, ![1, 4, 1, 64]⟩
abbrev S1x1x4 : Shape := ⟨3, ![1, 1, 4]⟩
abbrev S256x64 : Shape := ⟨2, ![256, 64]⟩
abbrev S1x256x64 : Shape := ⟨3, ![1, 256, 64]⟩
abbrev S256x1 : Shape := ⟨2, ![256, 1]⟩
abbrev S64 : Shape := ⟨1, ![64]⟩
abbrev S1x64 : Shape := ⟨2, ![1, 64]⟩
abbrev S1x256x1 : Shape := ⟨3, ![1, 256, 1]⟩
abbrev S1x1x1 : Shape := ⟨3, ![1, 1, 1]⟩
abbrev S1x1x64 : Shape := ⟨3, ![1, 1, 64]⟩
abbrev S4x1x64 : Shape := ⟨3, ![4, 1, 64]⟩
abbrev S4 : Shape := ⟨1, ![4]⟩
abbrev S4x4096 : Shape := ⟨2, ![4, 4096]⟩
abbrev S1x4 : Shape := ⟨2, ![1, 4]⟩
abbrev S4x64 : Shape := ⟨2, ![4, 64]⟩
abbrev S4096x128 : Shape := ⟨2, ![4096, 128]⟩
abbrev S4096x1 : Shape := ⟨2, ![4096, 1]⟩
abbrev S16x1x128 : Shape := ⟨3, ![16, 1, 128]⟩
abbrev S16x1x1 : Shape := ⟨3, ![16, 1, 1]⟩
abbrev S256x4096 : Shape := ⟨2, ![256, 4096]⟩
abbrev S256x128 : Shape := ⟨2, ![256, 128]⟩
abbrev S1x1x128 : Shape := ⟨3, ![1, 1, 128]⟩
abbrev S1x4096 : Shape := ⟨2, ![1, 4096]⟩
abbrev S4096 : Shape := ⟨1, ![4096]⟩
abbrev S1x1 : Shape := ⟨2, ![1, 1]⟩
abbrev S1x4096x64 : Shape := ⟨3, ![1, 4096, 64]⟩
abbrev S4096x64 : Shape := ⟨2, ![4096, 64]⟩
abbrev S256 : Shape := ⟨1, ![256]⟩
abbrev S1x64x128 : Shape := ⟨3, ![1, 64, 128]⟩
abbrev S64x128 : Shape := ⟨2, ![64, 128]⟩
abbrev S128 : Shape := ⟨1, ![128]⟩
abbrev S1x128 : Shape := ⟨2, ![1, 128]⟩
abbrev S4096x121 : Shape := ⟨2, ![4096, 121]⟩

abbrev nBuf : Space → Nat
  | .hbm => 83
  | .vmem => 46
  | .smem => 0
  | _ => 0

abbrev bufTy : (tb : Table) → Fin (tcTables nBuf tb) → BufTy
  | .hbm, ⟨0, _⟩ => ⟨S4096x512, .f32⟩
  | .hbm, ⟨1, _⟩ => ⟨S4096x4096, .i32⟩
  | .hbm, ⟨2, _⟩ => ⟨S512x64, .f32⟩
  | .hbm, ⟨3, _⟩ => ⟨S128x1, .f32⟩
  | .hbm, ⟨4, _⟩ => ⟨S512x64, .f32⟩
  | .hbm, ⟨5, _⟩ => ⟨S128x1, .f32⟩
  | .hbm, ⟨6, _⟩ => ⟨S512x64, .f32⟩
  | .hbm, ⟨7, _⟩ => ⟨S128x1, .f32⟩
  | .hbm, ⟨8, _⟩ => ⟨S512x64, .f32⟩
  | .hbm, ⟨9, _⟩ => ⟨S128x1, .f32⟩
  | .hbm, ⟨10, _⟩ => ⟨S256x121, .f32⟩
  | .hbm, ⟨11, _⟩ => ⟨S242x1, .f32⟩
  | .hbm, ⟨12, _⟩ => ⟨S1x512x64, .f32⟩
  | .hbm, ⟨13, _⟩ => ⟨S1x512x64, .f32⟩
  | .hbm, ⟨14, _⟩ => ⟨S1x512x64, .f32⟩
  | .hbm, ⟨15, _⟩ => ⟨S1x512x64, .f32⟩
  | .hbm, ⟨16, _⟩ => ⟨S4x512x64, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S64x1, .f32⟩
  | .hbm, ⟨21, _⟩ => ⟨S1x64x1, .f32⟩
  | .hbm, ⟨22, _⟩ => ⟨S1x64x1, .f32⟩
  | .hbm, ⟨23, _⟩ => ⟨S1x64x1, .f32⟩
  | .hbm, ⟨24, _⟩ => ⟨S1x64x1, .f32⟩
  | .hbm, ⟨25, _⟩ => ⟨S4x64x1, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S1x64x1, .f32⟩
  | .hbm, ⟨31, _⟩ => ⟨S1x64x1, .f32⟩
  | .hbm, ⟨32, _⟩ => ⟨S1x64x1, .f32⟩
  | .hbm, ⟨33, _⟩ => ⟨S1x64x1, .f32⟩
  | .hbm, ⟨34, _⟩ => ⟨S4x64x1, .f32⟩
  | .hbm, ⟨35, _⟩ => ⟨S_, .f32⟩
  | .hbm, ⟨36, _⟩ => ⟨S4x64x128, .f32⟩
  | .hbm, ⟨37, _⟩ => ⟨S4x64x121, .f32⟩
  | .hbm, ⟨38, _⟩ => ⟨S_, .i32⟩
  | .hbm, ⟨39, _⟩ => ⟨S1, .i32⟩
  | .hbm, ⟨40, _⟩ => ⟨S4x64x128, .f32⟩
  | .hbm, ⟨41, _⟩ => ⟨S4x64x128, .bf16⟩
  | .hbm, ⟨42, _⟩ => ⟨S_, .f32⟩
  | .hbm, ⟨43, _⟩ => ⟨S128x1, .f32⟩
  | .hbm, ⟨44, _⟩ => ⟨S121x1, .f32⟩
  | .hbm, ⟨45, _⟩ => ⟨S_, .i32⟩
  | .hbm, ⟨46, _⟩ => ⟨S1, .i32⟩
  | .hbm, ⟨47, _⟩ => ⟨S128x1, .f32⟩
  | .hbm, ⟨48, _⟩ => ⟨S_, .f32⟩
  | .hbm, ⟨49, _⟩ => ⟨S128x1, .f32⟩
  | .hbm, ⟨50, _⟩ => ⟨S121x1, .f32⟩
  | .hbm, ⟨51, _⟩ => ⟨S_, .i32⟩
  | .hbm, ⟨52, _⟩ => ⟨S1, .i32⟩
  | .hbm, ⟨53, _⟩ => ⟨S128x1, .f32⟩
  | .hbm, ⟨54, _⟩ => ⟨S4x4096x64, .bf16⟩
  | .hbm, ⟨55, _⟩ => ⟨S4096x4, .f32⟩
  | .hbm, ⟨56, _⟩ => ⟨S4096x4, .f32⟩
  | .hbm, ⟨57, _⟩ => ⟨S16x4x1x64, .f32⟩
  | .hbm, ⟨58, _⟩ => ⟨S16x1x4, .f32⟩
  | .hbm, ⟨59, _⟩ => ⟨S4x4096, .f32⟩
  | .hbm, ⟨60, _⟩ => ⟨S_, .f32⟩
  | .hbm, ⟨61, _⟩ => ⟨S1x4, .f32⟩
  | .hbm, ⟨62, _⟩ => ⟨S_, .f32⟩
  | .hbm, ⟨63, _⟩ => ⟨S4x1x64, .f32⟩
  | .hbm, ⟨64, _⟩ => ⟨S4x64, .f32⟩
  | .hbm, ⟨65, _⟩ => ⟨S_, .f32⟩
  | .hbm, ⟨66, _⟩ => ⟨S4x64, .f32⟩
  | .hbm, ⟨67, _⟩ => ⟨S4x64, .f32⟩
  | .hbm, ⟨68, _⟩ => ⟨S4096x128, .bf16⟩
  | .hbm, ⟨69, _⟩ => ⟨S4096x1, .f32⟩
  | .hbm, ⟨70, _⟩ => ⟨S4096x1, .f32⟩
  | .hbm, ⟨71, _⟩ => ⟨S16x1x128, .f32⟩
  | .hbm, ⟨72, _⟩ => ⟨S16x1x1, .f32⟩
  | .hbm, ⟨73, _⟩ => ⟨S1x4096, .f32⟩
  | .hbm, ⟨74, _⟩ => ⟨S_, .f32⟩
  | .hbm, ⟨75, _⟩ => ⟨S1x1, .f32⟩
  | .hbm, ⟨76, _⟩ => ⟨S_, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S4096x128, .f32⟩
  | .hbm, ⟨82, _⟩ => ⟨S4096x121, .f32⟩
  | .local _ .vmem, ⟨0, _⟩ => ⟨S256x512, .f32⟩
  | .local _ .vmem, ⟨1, _⟩ => ⟨S256x512, .f32⟩
  | .local _ .vmem, ⟨2, _⟩ => ⟨S4x512x64, .f32⟩
  | .local _ .vmem, ⟨3, _⟩ => ⟨S4x64x1, .f32⟩
  | .local _ .vmem, ⟨4, _⟩ => ⟨S4x64x1, .f32⟩
  | .local _ .vmem, ⟨5, _⟩ => ⟨S4x256x64, .bf16⟩
  | .local _ .vmem, ⟨6, _⟩ => ⟨S4x256x64, .bf16⟩
  | .local _ .vmem, ⟨7, _⟩ => ⟨S256x4, .f32⟩
  | .local _ .vmem, ⟨8, _⟩ => ⟨S256x4, .f32⟩
  | .local _ .vmem, ⟨9, _⟩ => ⟨S256x4, .f32⟩
  | .local _ .vmem, ⟨10, _⟩ => ⟨S256x4, .f32⟩
  | .local _ .vmem, ⟨11, _⟩ => ⟨S1x4x1x64, .f32⟩
  | .local _ .vmem, ⟨12, _⟩ => ⟨S1x4x1x64, .f32⟩
  | .local _ .vmem, ⟨13, _⟩ => ⟨S1x1x4, .f32⟩
  | .local _ .vmem, ⟨14, _⟩ => ⟨S1x1x4, .f32⟩
  | .local _ .vmem, ⟨15, _⟩ => ⟨S256x4096, .i32⟩
  | .local _ .vmem, ⟨16, _⟩ => ⟨S256x4096, .i32⟩
  | .local _ .vmem, ⟨17, _⟩ => ⟨S4x4096x64, .bf16⟩
  | .local _ .vmem, ⟨18, _⟩ => ⟨S256x4, .f32⟩
  | .local _ .vmem, ⟨19, _⟩ => ⟨S256x4, .f32⟩
  | .local _ .vmem, ⟨20, _⟩ => ⟨S4x4096, .f32⟩
  | .local _ .vmem, ⟨21, _⟩ => ⟨S1x4, .f32⟩
  | .local _ .vmem, ⟨22, _⟩ => ⟨S4x64, .f32⟩
  | .local _ .vmem, ⟨23, _⟩ => ⟨S4x64x128, .bf16⟩
  | .local _ .vmem, ⟨24, _⟩ => ⟨S128x1, .f32⟩
  | .local _ .vmem, ⟨25, _⟩ => ⟨S128x1, .f32⟩
  | .local _ .vmem, ⟨26, _⟩ => ⟨S256x128, .bf16⟩
  | .local _ .vmem, ⟨27, _⟩ => ⟨S256x128, .bf16⟩
  | .local _ .vmem, ⟨28, _⟩ => ⟨S256x1, .f32⟩
  | .local _ .vmem, ⟨29, _⟩ => ⟨S256x1, .f32⟩
  | .local _ .vmem, ⟨30, _⟩ => ⟨S256x1, .f32⟩
  | .local _ .vmem, ⟨31, _⟩ => ⟨S256x1, .f32⟩
  | .local _ .vmem, ⟨32, _⟩ => ⟨S1x1x128, .f32⟩
  | .local _ .vmem, ⟨33, _⟩ => ⟨S1x1x128, .f32⟩
  | .local _ .vmem, ⟨34, _⟩ => ⟨S1x1x1, .f32⟩
  | .local _ .vmem, ⟨35, _⟩ => ⟨S1x1x1, .f32⟩
  | .local _ .vmem, ⟨36, _⟩ => ⟨S256x4096, .i32⟩
  | .local _ .vmem, ⟨37, _⟩ => ⟨S256x4096, .i32⟩
  | .local _ .vmem, ⟨38, _⟩ => ⟨S4096x128, .bf16⟩
  | .local _ .vmem, ⟨39, _⟩ => ⟨S256x1, .f32⟩
  | .local _ .vmem, ⟨40, _⟩ => ⟨S256x1, .f32⟩
  | .local _ .vmem, ⟨41, _⟩ => ⟨S1x4096, .f32⟩
  | .local _ .vmem, ⟨42, _⟩ => ⟨S1x1, .f32⟩
  | .local _ .vmem, ⟨43, _⟩ => ⟨S1x128, .f32⟩
  | .local _ .vmem, ⟨44, _⟩ => ⟨S256x128, .f32⟩
  | .local _ .vmem, ⟨45, _⟩ => ⟨S256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_c_1 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_c_3 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev main_v36_4 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43_0 : Ref sig .tc := ⟨.hbm, 68, rfl⟩
abbrev main_v43_1 : Ref sig .tc := ⟨.hbm, 69, rfl⟩
abbrev main_v43_2 : Ref sig .tc := ⟨.hbm, 70, rfl⟩
abbrev main_v43_3 : Ref sig .tc := ⟨.hbm, 71, rfl⟩
abbrev main_v43_4 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg6_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34
abbrev cc1_sem13_1 : DmaSem sig := 35
abbrev cc2_sem0_0 : DmaSem sig := 36
abbrev cc2_sem0_1 : DmaSem sig := 37
abbrev cc2_sem1_0 : DmaSem sig := 38
abbrev cc2_sem2_0 : DmaSem sig := 39
abbrev cc2_sem2_1 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem6_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x64x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x1x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x1x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S4096x512 : Shape := ⟨2, ![4096, 512]⟩
abbrev S4096x4096 : Shape := ⟨2, ![4096, 4096]⟩
abbrev S512x64 : Shape := ⟨2, ![512, 64]⟩
abbrev S128x1 : Shape := ⟨2, ![128, 1]⟩
abbrev S256x121 : Shape := ⟨2, ![256, 121]⟩
abbrev S242x1 : Shape := ⟨2, ![242, 1]⟩
abbrev S4096x64 : Shape := ⟨2, ![4096, 64]⟩
abbrev S64x1 : Shape := ⟨2, ![64, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩
abbrev S4096x256 : Shape := ⟨2, ![4096, 256]⟩
abbrev S4096x121 : Shape := ⟨2, ![4096, 121]⟩
abbrev S121x1 : Shape := ⟨2, ![121, 1]⟩

abbrev nBuf : Space → Nat
  | .hbm => 318
  | .vmem => 0
  | .smem => 0
  | _ => 0

abbrev hbmTy0_0 (i : Nat) : BufTy := match i % 128 with
  | 0 => ⟨S4096x512, .f32⟩
  | 1 => ⟨S4096x4096, .i32⟩
  | 2 => ⟨S512x64, .f32⟩
  | 3 => ⟨S128x1, .f32⟩
  | 4 => ⟨S512x64, .f32⟩
  | 5 => ⟨S128x1, .f32⟩
  | 6 => ⟨S512x64, .f32⟩
  | 7 => ⟨S128x1, .f32⟩
  | 8 => ⟨S512x64, .f32⟩
  | 9 => ⟨S128x1, .f32⟩
  | 10 => ⟨S256x121, .f32⟩
  | 11 => ⟨S242x1, .f32⟩
  | 12 => ⟨S4096x64, .f32⟩
  | 13 => ⟨S64x1, .f32⟩
  | 14 => ⟨S4096x1, .f32⟩
  | 15 => ⟨S64x1, .f32⟩
  | 16 => ⟨S4096x1, .f32⟩
  | 17 => ⟨S1x4096, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .i1⟩
  | 24 => ⟨S_, .f32⟩
  | 25 => ⟨S4096x4096, .f32⟩
  | 26 => ⟨S4096x4096, .f32⟩
  | 27 => ⟨S4096x4096, .f32⟩
  | 28 => ⟨S_, .i32⟩
  | 29 => ⟨S4096x4096, .i32⟩
  | 30 => ⟨S4096x4096, .i1⟩
  | 31 => ⟨S_, .f32⟩
  | 32 => ⟨S_, .f32⟩
  | 33 => ⟨S4096x4096, .f32⟩
  | 34 => ⟨S4096x4096, .f32⟩
  | 35 => ⟨S_, .f32⟩
  | 36 => ⟨S4096, .f32⟩
  | 37 => ⟨S_, .f32⟩
  | 38 => ⟨S4096, .f32⟩
  | 39 => ⟨S4096, .f32⟩
  | 40 => ⟨S4096x1, .f32⟩
  | 41 => ⟨S4096x4096, .f32⟩
  | 42 => ⟨S4096x4096, .f32⟩
  | 43 => ⟨S4096x4096, .f32⟩
  | 44 => ⟨S_, .f32⟩
  | 45 => ⟨S4096, .f32⟩
  | 46 => ⟨S4096x1, .f32⟩
  | 47 => ⟨S4096x4096, .f32⟩
  | 48 => ⟨S4096x4096, .f32⟩
  | 49 => ⟨S_, .i32⟩
  | 50 => ⟨S4096x4096, .i32⟩
  | 51 => ⟨S4096x4096, .i1⟩
  | 52 => ⟨S_, .i1⟩
  | 53 => ⟨S4096, .i1⟩
  | 54 => ⟨S4096x1, .i1⟩
  | 55 => ⟨S_, .f32⟩
  | 56 => ⟨S_, .f32⟩
  | 57 => ⟨S4096x4096, .i1⟩
  | 58 => ⟨S4096x4096, .f32⟩
  | 59 => ⟨S4096x4096, .f32⟩
  | 60 => ⟨S4096x64, .f32⟩
  | 61 => ⟨S_, .f32⟩
  | 62 => ⟨S4096x64, .f32⟩
  | 63 => ⟨S4096x64, .i1⟩
  | 64 => ⟨S_, .f32⟩
  | 65 => ⟨S4096x64, .f32⟩
  | 66 => ⟨S4096x64, .i1⟩
  | 67 => ⟨S_, .f32⟩
  | 68 => ⟨S_, .f32⟩
  | 69 => ⟨S4096x64, .f32⟩
  | 70 => ⟨S4096x64, .f32⟩
  | 71 => ⟨S4096x64, .f32⟩
  | 72 => ⟨S_, .f32⟩
  | 73 => ⟨S4096x64, .f32⟩
  | 74 => ⟨S4096x64, .f32⟩
  | 75 => ⟨S4096x64, .f32⟩
  | 76 => ⟨S4096x64, .f32⟩
  | 77 => ⟨S64x1, .f32⟩
  | 78 => ⟨S4096x1, .f32⟩
  | 79 => ⟨S64x1, .f32⟩
  | 80 => ⟨S4096x1, .f32⟩
  | 81 => ⟨S1x4096, .f32⟩
  | 82 => ⟨S4096x4096, .f32⟩
  | 83 => ⟨S4096x4096, .f32⟩
  | 84 => ⟨S4096x4096, .f32⟩
  | 85 => ⟨S_, .f32⟩
  | 86 => ⟨S4096x4096, .f32⟩
  | 87 => ⟨S4096x4096, .i1⟩
  | 88 => ⟨S_, .f32⟩
  | 89 => ⟨S4096x4096, .f32⟩
  | 90 => ⟨S4096x4096, .f32⟩
  | 91 => ⟨S4096x4096, .f32⟩
  | 92 => ⟨S_, .i32⟩
  | 93 => ⟨S4096x4096, .i32⟩
  | 94 => ⟨S4096x4096, .i1⟩
  | 95 => ⟨S_, .f32⟩
  | 96 => ⟨S_, .f32⟩
  | 97 => ⟨S4096x4096, .f32⟩
  | 98 => ⟨S4096x4096, .f32⟩
  | 99 => ⟨S_, .f32⟩
  | 100 => ⟨S4096, .f32⟩
  | 101 => ⟨S_, .f32⟩
  | 102 => ⟨S4096, .f32⟩
  | 103 => ⟨S4096, .f32⟩
  | 104 => ⟨S4096x1, .f32⟩
  | 105 => ⟨S4096x4096, .f32⟩
  | 106 => ⟨S4096x4096, .f32⟩
  | 107 => ⟨S4096x4096, .f32⟩
  | 108 => ⟨S_, .f32⟩
  | 109 => ⟨S4096, .f32⟩
  | 110 => ⟨S4096x1, .f32⟩
  | 111 => ⟨S4096x4096, .f32⟩
  | 112 => ⟨S4096x4096, .f32⟩
  | 113 => ⟨S_, .i32⟩
  | 114 => ⟨S4096x4096, .i32⟩
  | 115 => ⟨S4096x4096, .i1⟩
  | 116 => ⟨S_, .i1⟩
  | 117 => ⟨S4096, .i1⟩
  | 118 => ⟨S4096x1, .i1⟩
  | 119 => ⟨S_, .f32⟩
  | 120 => ⟨S_, .f32⟩
  | 121 => ⟨S4096x4096, .i1⟩
  | 122 => ⟨S4096x4096, .f32⟩
  | 123 => ⟨S4096x4096, .f32⟩
  | 124 => ⟨S4096x64, .f32⟩
  | 125 => ⟨S_, .f32⟩
  | 126 => ⟨S4096x64, .f32⟩
  | 127 => ⟨S4096x64, .i1⟩
  | _ => ⟨S4096x512, .f32⟩

abbrev hbmTy0_1 (i : Nat) : BufTy := match i % 128 with
  | 0 => ⟨S_, .f32⟩
  | 1 => ⟨S4096x64, .f32⟩
  | 2 => ⟨S4096x64, .i1⟩
  | 3 => ⟨S_, .f32⟩
  | 4 => ⟨S_, .f32⟩
  | 5 => ⟨S4096x64, .f32⟩
  | 6 => ⟨S4096x64, .f32⟩
  | 7 => ⟨S4096x64, .f32⟩
  | 8 => ⟨S_, .f32⟩
  | 9 => ⟨S4096x64, .f32⟩
  | 10 => ⟨S4096x64, .f32⟩
  | 11 => ⟨S4096x64, .f32⟩
  | 12 => ⟨S4096x64, .f32⟩
  | 13 => ⟨S64x1, .f32⟩
  | 14 => ⟨S4096x1, .f32⟩
  | 15 => ⟨S64x1, .f32⟩
  | 16 => ⟨S4096x1, .f32⟩
  | 17 => ⟨S1x4096, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .i1⟩
  | 24 => ⟨S_, .f32⟩
  | 25 => ⟨S4096x4096, .f32⟩
  | 26 => ⟨S4096x4096, .f32⟩
  | 27 => ⟨S4096x4096, .f32⟩
  | 28 => ⟨S_, .i32⟩
  | 29 => ⟨S4096x4096, .i32⟩
  | 30 => ⟨S4096x4096, .i1⟩
  | 31 => ⟨S_, .f32⟩
  | 32 => ⟨S_, .f32⟩
  | 33 => ⟨S4096x4096, .f32⟩
  | 34 => ⟨S4096x4096, .f32⟩
  | 35 => ⟨S_, .f32⟩
  | 36 => ⟨S4096, .f32⟩
  | 37 => ⟨S_, .f32⟩
  | 38 => ⟨S4096, .f32⟩
  | 39 => ⟨S4096, .f32⟩
  | 40 => ⟨S4096x1, .f32⟩
  | 41 => ⟨S4096x4096, .f32⟩
  | 42 => ⟨S4096x4096, .f32⟩
  | 43 => ⟨S4096x4096, .f32⟩
  | 44 => ⟨S_, .f32⟩
  | 45 => ⟨S4096, .f32⟩
  | 46 => ⟨S4096x1, .f32⟩
  | 47 => ⟨S4096x4096, .f32⟩
  | 48 => ⟨S4096x4096, .f32⟩
  | 49 => ⟨S_, .i32⟩
  | 50 => ⟨S4096x4096, .i32⟩
  | 51 => ⟨S4096x4096, .i1⟩
  | 52 => ⟨S_, .i1⟩
  | 53 => ⟨S4096, .i1⟩
  | 54 => ⟨S4096x1, .i1⟩
  | 55 => ⟨S_, .f32⟩
  | 56 => ⟨S_, .f32⟩
  | 57 => ⟨S4096x4096, .i1⟩
  | 58 => ⟨S4096x4096, .f32⟩
  | 59 => ⟨S4096x4096, .f32⟩
  | 60 => ⟨S4096x64, .f32⟩
  | 61 => ⟨S_, .f32⟩
  | 62 => ⟨S4096x64, .f32⟩
  | 63 => ⟨S4096x64, .i1⟩
  | 64 => ⟨S_, .f32⟩
  | 65 => ⟨S4096x64, .f32⟩
  | 66 => ⟨S4096x64, .i1⟩
  | 67 => ⟨S_, .f32⟩
  | 68 => ⟨S_, .f32⟩
  | 69 => ⟨S4096x64, .f32⟩
  | 70 => ⟨S4096x64, .f32⟩
  | 71 => ⟨S4096x64, .f32⟩
  | 72 => ⟨S_, .f32⟩
  | 73 => ⟨S4096x64, .f32⟩
  | 74 => ⟨S4096x64, .f32⟩
  | 75 => ⟨S4096x64, .f32⟩
  | 76 => ⟨S4096x64, .f32⟩
  | 77 => ⟨S64x1, .f32⟩
  | 78 => ⟨S4096x1, .f32⟩
  | 79 => ⟨S64x1, .f32⟩
  | 80 => ⟨S4096x1, .f32⟩
  | 81 => ⟨S1x4096, .f32⟩
  | 82 => ⟨S4096x4096, .f32⟩
  | 83 => ⟨S4096x4096, .f32⟩
  | 84 => ⟨S4096x4096, .f32⟩
  | 85 => ⟨S_, .f32⟩
  | 86 => ⟨S4096x4096, .f32⟩
  | 87 => ⟨S4096x4096, .i1⟩
  | 88 => ⟨S_, .f32⟩
  | 89 => ⟨S4096x4096, .f32⟩
  | 90 => ⟨S4096x4096, .f32⟩
  | 91 => ⟨S4096x4096, .f32⟩
  | 92 => ⟨S_, .i32⟩
  | 93 => ⟨S4096x4096, .i32⟩
  | 94 => ⟨S4096x4096, .i1⟩
  | 95 => ⟨S_, .f32⟩
  | 96 => ⟨S_, .f32⟩
  | 97 => ⟨S4096x4096, .f32⟩
  | 98 => ⟨S4096x4096, .f32⟩
  | 99 => ⟨S_, .f32⟩
  | 100 => ⟨S4096, .f32⟩
  | 101 => ⟨S_, .f32⟩
  | 102 => ⟨S4096, .f32⟩
  | 103 => ⟨S4096, .f32⟩
  | 104 => ⟨S4096x1, .f32⟩
  | 105 => ⟨S4096x4096, .f32⟩
  | 106 => ⟨S4096x4096, .f32⟩
  | 107 => ⟨S4096x4096, .f32⟩
  | 108 => ⟨S_, .f32⟩
  | 109 => ⟨S4096, .f32⟩
  | 110 => ⟨S4096x1, .f32⟩
  | 111 => ⟨S4096x4096, .f32⟩
  | 112 => ⟨S4096x4096, .f32⟩
  | 113 => ⟨S_, .i32⟩
  | 114 => ⟨S4096x4096, .i32⟩
  | 115 => ⟨S4096x4096, .i1⟩
  | 116 => ⟨S_, .i1⟩
  | 117 => ⟨S4096, .i1⟩
  | 118 => ⟨S4096x1, .i1⟩
  | 119 => ⟨S_, .f32⟩
  | 120 => ⟨S_, .f32⟩
  | 121 => ⟨S4096x4096, .i1⟩
  | 122 => ⟨S4096x4096, .f32⟩
  | 123 => ⟨S4096x4096, .f32⟩
  | 124 => ⟨S4096x64, .f32⟩
  | 125 => ⟨S_, .f32⟩
  | 126 => ⟨S4096x64, .f32⟩
  | 127 => ⟨S4096x64, .i1⟩
  | _ => ⟨S4096x512, .f32⟩

abbrev hbmTy0_2 (i : Nat) : BufTy := match i % 128 with
  | 0 => ⟨S_, .f32⟩
  | 1 => ⟨S4096x64, .f32⟩
  | 2 => ⟨S4096x64, .i1⟩
  | 3 => ⟨S_, .f32⟩
  | 4 => ⟨S_, .f32⟩
  | 5 => ⟨S4096x64, .f32⟩
  | 6 => ⟨S4096x64, .f32⟩
  | 7 => ⟨S4096x64, .f32⟩
  | 8 => ⟨S_, .f32⟩
  | 9 => ⟨S4096x64, .f32⟩
  | 10 => ⟨S4096x64, .f32⟩
  | 11 => ⟨S4096x64, .f32⟩
  | 12 => ⟨S4096x256, .f32⟩
  | 13 => ⟨S4096x121, .f32⟩
  | 14 => ⟨S121x1, .f32⟩
  | 15 => ⟨S4096x1, .f32⟩
  | 16 => ⟨S121x1, .f32⟩
  | 17 => ⟨S4096x1, .f32⟩
  | 18 => ⟨S1x4096, .f32⟩
  | 19 => ⟨S4096x4096, .f32⟩
  | 20 => ⟨S4096x4096, .f32⟩
  | 21 => ⟨S4096x4096, .f32⟩
  | 22 => ⟨S_, .f32⟩
  | 23 => ⟨S4096x4096, .f32⟩
  | 24 => ⟨S4096x4096, .i1⟩
  | 25 => ⟨S_, .f32⟩
  | 26 => ⟨S4096x4096, .f32⟩
  | 27 => ⟨S4096x4096, .f32⟩
  | 28 => ⟨S4096x4096, .f32⟩
  | 29 => ⟨S_, .i32⟩
  | 30 => ⟨S4096x4096, .i32⟩
  | 31 => ⟨S4096x4096, .i1⟩
  | 32 => ⟨S_, .f32⟩
  | 33 => ⟨S_, .f32⟩
  | 34 => ⟨S4096x4096, .f32⟩
  | 35 => ⟨S4096x4096, .f32⟩
  | 36 => ⟨S_, .f32⟩
  | 37 => ⟨S4096, .f32⟩
  | 38 => ⟨S_, .f32⟩
  | 39 => ⟨S4096, .f32⟩
  | 40 => ⟨S4096, .f32⟩
  | 41 => ⟨S4096x1, .f32⟩
  | 42 => ⟨S4096x4096, .f32⟩
  | 43 => ⟨S4096x4096, .f32⟩
  | 44 => ⟨S4096x4096, .f32⟩
  | 45 => ⟨S_, .f32⟩
  | 46 => ⟨S4096, .f32⟩
  | 47 => ⟨S4096x1, .f32⟩
  | 48 => ⟨S4096x4096, .f32⟩
  | 49 => ⟨S4096x4096, .f32⟩
  | 50 => ⟨S_, .i32⟩
  | 51 => ⟨S4096x4096, .i32⟩
  | 52 => ⟨S4096x4096, .i1⟩
  | 53 => ⟨S_, .i1⟩
  | 54 => ⟨S4096, .i1⟩
  | 55 => ⟨S4096x1, .i1⟩
  | 56 => ⟨S_, .f32⟩
  | 57 => ⟨S_, .f32⟩
  | 58 => ⟨S4096x4096, .i1⟩
  | 59 => ⟨S4096x4096, .f32⟩
  | 60 => ⟨S4096x4096, .f32⟩
  | 61 => ⟨S4096x121, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v32 : Ref sig .tc := ⟨.hbm, 59, rfl⟩
abbrev main_v33 : Ref sig .tc := ⟨.hbm, 60, rfl⟩
abbrev main_call3_cst : Ref sig .tc := ⟨.hbm, 61, rfl⟩
abbrev main_call3_v0 : Ref sig .tc := ⟨.hbm, 62, rfl⟩
abbrev main_call3_v1 : Ref sig .tc := ⟨.hbm, 63, rfl⟩
abbrev main_call3_cst_0 : Ref sig .tc := ⟨.hbm, 64, rfl⟩
abbrev main_call3_v2 : Ref sig .tc := ⟨.hbm, 65, rfl⟩
abbrev main_call3_v3 : Ref sig .tc := ⟨.hbm, 66, rfl⟩
abbrev main_call3_cst_1 : Ref sig .tc := ⟨.hbm, 67, rfl⟩
abbrev main_call3_call0_v0 : Ref sig .tc := ⟨.hbm, 68, rfl⟩
abbrev main_call3_call0_v1 : Ref sig .tc := ⟨.hbm, 69, rfl⟩
abbrev main_call3_v4 : Ref sig .tc := ⟨.hbm, 70, rfl⟩
abbrev main_call3_v5 : Ref sig .tc := ⟨.hbm, 71, rfl⟩
abbrev main_call3_cst_2 : Ref sig .tc := ⟨.hbm, 72, rfl⟩
abbrev main_call3_v6 : Ref sig .tc := ⟨.hbm, 73, rfl⟩
abbrev main_call3_v7 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_8 : Ref sig .tc := ⟨.hbm, 85, rfl⟩
abbrev main_v44 : Ref sig .tc := ⟨.hbm, 86, rfl⟩
abbrev main_v45 : Ref sig .tc := ⟨.hbm, 87, rfl⟩
abbrev main_cst_9 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_10 : Ref sig .tc := ⟨.hbm, 92, rfl⟩
abbrev main_v49 : Ref sig .tc := ⟨.hbm, 93, rfl⟩
abbrev main_v50 : Ref sig .tc := ⟨.hbm, 94, rfl⟩
abbrev main_cst_11 : Ref sig .tc := ⟨.hbm, 95, rfl⟩
abbrev main_call5_v0 : Ref sig .tc := ⟨.hbm, 96, rfl⟩
abbrev main_call5_v1 : Ref sig .tc := ⟨.hbm, 97, rfl⟩
abbrev main_v51 : Ref sig .tc := ⟨.hbm, 98, rfl⟩
abbrev main_cst_12 : Ref sig .tc := ⟨.hbm, 99, rfl⟩
abbrev main_v52 : Ref sig .tc := ⟨.hbm, 100, rfl⟩
abbrev main_cst_13 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_14 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_c_15 : Ref sig .tc := ⟨.hbm, 113, rfl⟩
abbrev main_v63 : Ref sig .tc := ⟨.hbm, 114, rfl⟩
abbrev main_v64 : Ref sig .tc := ⟨.hbm, 115, rfl⟩
abbrev main_c_16 : Ref sig .tc := ⟨.hbm, 116, rfl⟩
abbrev main_v65 : Ref sig .tc := ⟨.hbm, 117, rfl⟩
abbrev main_v66 : Ref sig .tc := ⟨.hbm, 118, rfl⟩
abbrev main_cst_17 : Ref sig .tc := ⟨.hbm, 119, rfl⟩
abbrev main_call6_v0 : Ref sig .tc := ⟨.hbm, 120, rfl⟩
abbrev main_call6_v1 : Ref sig .tc := ⟨.hbm, 121, rfl⟩
abbrev main_call6_v2 : Ref sig .tc := ⟨.hbm, 122, rfl⟩
abbrev main_v67 : Ref sig .tc := ⟨.hbm, 123, rfl⟩
abbrev main_v68 : Ref sig .tc := ⟨.hbm, 124, rfl⟩
abbrev main_call7_cst : Ref sig .tc := ⟨.hbm, 125, rfl⟩
abbrev main_call7_v0 : Ref sig .tc := ⟨.hbm, 126, rfl⟩
abbrev main_call7_v1 : Ref sig .tc := ⟨.hbm, 127, rfl⟩
abbrev main_call7_cst_0 : Ref sig .tc := ⟨.hbm, 128, rfl⟩
abbrev main_call7_v2 : Ref sig .tc := ⟨.hbm, 129, rfl⟩
abbrev main_call7_v3 : Ref sig .tc := ⟨.hbm, 130, rfl⟩
abbrev main_call7_cst_1 : Ref sig .tc := ⟨.hbm, 131, rfl⟩
abbrev main_call7_call0_v0 : Ref sig .tc := ⟨.hbm, 132, rfl⟩
abbrev main_call7_call0_v1 : Ref sig .tc := ⟨.hbm, 133, rfl⟩
abbrev main_call7_v4 : Ref sig .tc := ⟨.hbm, 134, rfl⟩
abbrev main_call7_v5 : Ref sig .tc := ⟨.hbm, 135, rfl⟩
abbrev main_call7_cst_2 : Ref sig .tc := ⟨.hbm, 136, rfl⟩
abbrev main_call7_v6 : Ref sig .tc := ⟨.hbm, 137, rfl⟩
abbrev main_call7_v7 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_cst_18 : Ref sig .tc := ⟨.hbm, 149, rfl⟩
abbrev main_v79 : Ref sig .tc := ⟨.hbm, 150, rfl⟩
abbrev main_v80 : Ref sig .tc := ⟨.hbm, 151, rfl⟩
abbrev main_cst_19 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_c_20 : Ref sig .tc := ⟨.hbm, 156, rfl⟩
abbrev main_v84 : Ref sig .tc := ⟨.hbm, 157, rfl⟩
abbrev main_v85 : Ref sig .tc := ⟨.hbm, 158, rfl⟩
abbrev main_cst_21 : Ref sig .tc := ⟨.hbm, 159, rfl⟩
abbrev main_call9_v0 : Ref sig .tc := ⟨.hbm, 160, rfl⟩
abbrev main_call9_v1 : Ref sig .tc := ⟨.hbm, 161, rfl⟩
abbrev main_v86 : Ref sig .tc := ⟨.hbm, 162, rfl⟩
abbrev main_cst_22 : Ref sig .tc := ⟨.hbm, 163, rfl⟩
abbrev main_v87 : Ref sig .tc := ⟨.hbm, 164, rfl⟩
abbrev main_cst_23 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_cst_24 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_c_25 : Ref sig .tc := ⟨.hbm, 177, rfl⟩
abbrev main_v98 : Ref sig .tc := ⟨.hbm, 178, rfl⟩
abbrev main_v99 : Ref sig .tc := ⟨.hbm, 179, rfl⟩
abbrev main_c_26 : Ref sig .tc := ⟨.hbm, 180, rfl⟩
abbrev main_v100 : Ref sig .tc := ⟨.hbm, 181, rfl⟩
abbrev main_v101 : Ref sig .tc := ⟨.hbm, 182, rfl⟩
abbrev main_cst_27 : Ref sig .tc := ⟨.hbm, 183, rfl⟩
abbrev main_call10_v0 : Ref sig .tc := ⟨.hbm, 184, rfl⟩
abbrev main_call10_v1 : Ref sig .tc := ⟨.hbm, 185, rfl⟩
abbrev main_call10_v2 : Ref sig .tc := ⟨.hbm, 186, rfl⟩
abbrev main_v102 : Ref sig .tc := ⟨.hbm, 187, rfl⟩
abbrev main_v103 : Ref sig .tc := ⟨.hbm, 188, rfl⟩
abbrev main_call11_cst : Ref sig .tc := ⟨.hbm, 189, rfl⟩
abbrev main_call11_v0 : Ref sig .tc := ⟨.hbm, 190, rfl⟩
abbrev main_call11_v1 : Ref sig .tc := ⟨.hbm, 191, rfl⟩
abbrev main_call11_cst_0 : Ref sig .tc := ⟨.hbm, 192, rfl⟩
abbrev main_call11_v2 : Ref sig .tc := ⟨.hbm, 193, rfl⟩
abbrev main_call11_v3 : Ref sig .tc := ⟨.hbm, 194, rfl⟩
abbrev main_call11_cst_1 : Ref sig .tc := ⟨.hbm, 195, rfl⟩
abbrev main_call11_call0_v0 : Ref sig .tc := ⟨.hbm, 196, rfl⟩
abbrev main_call11_call0_v1 : Ref sig .tc := ⟨.hbm, 197, rfl⟩
abbrev main_call11_v4 : Ref sig .tc := ⟨.hbm, 198, rfl⟩
abbrev main_call11_v5 : Ref sig .tc := ⟨.hbm, 199, rfl⟩
abbrev main_call11_cst_2 : Ref sig .tc := ⟨.hbm, 200, rfl⟩
abbrev main_call11_v6 : Ref sig .tc := ⟨.hbm, 201, rfl⟩
abbrev main_call11_v7 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_cst_28 : Ref sig .tc := ⟨.hbm, 213, rfl⟩
abbrev main_v114 : Ref sig .tc := ⟨.hbm, 214, rfl⟩
abbrev main_v115 : Ref sig .tc := ⟨.hbm, 215, rfl⟩
abbrev main_cst_29 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_c_30 : Ref sig .tc := ⟨.hbm, 220, rfl⟩
abbrev main_v119 : Ref sig .tc := ⟨.hbm, 221, rfl⟩
abbrev main_v120 : Ref sig .tc := ⟨.hbm, 222, rfl⟩
abbrev main_cst_31 : Ref sig .tc := ⟨.hbm, 223, rfl⟩
abbrev main_call13_v0 : Ref sig .tc := ⟨.hbm, 224, rfl⟩
abbrev main_call13_v1 : Ref sig .tc := ⟨.hbm, 225, rfl⟩
abbrev main_v121 : Ref sig .tc := ⟨.hbm, 226, rfl⟩
abbrev main_cst_32 : Ref sig .tc := ⟨.hbm, 227, rfl⟩
abbrev main_v122 : Ref sig .tc := ⟨.hbm, 228, rfl⟩
abbrev main_cst_33 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_cst_34 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_c_35 : Ref sig .tc := ⟨.hbm, 241, rfl⟩
abbrev main_v133 : Ref sig .tc := ⟨.hbm, 242, rfl⟩
abbrev main_v134 : Ref sig .tc := ⟨.hbm, 243, rfl⟩
abbrev main_c_36 : Ref sig .tc := ⟨.hbm, 244, rfl⟩
abbrev main_v135 : Ref sig .tc := ⟨.hbm, 245, rfl⟩
abbrev main_v136 : Ref sig .tc := ⟨.hbm, 246, rfl⟩
abbrev main_cst_37 : Ref sig .tc := ⟨.hbm, 247, rfl⟩
abbrev main_call14_v0 : Ref sig .tc := ⟨.hbm, 248, rfl⟩
abbrev main_call14_v1 : Ref sig .tc := ⟨.hbm, 249, rfl⟩
abbrev main_call14_v2 : Ref sig .tc := ⟨.hbm, 250, rfl⟩
abbrev main_v137 : Ref sig .tc := ⟨.hbm, 251, rfl⟩
abbrev main_v138 : Ref sig .tc := ⟨.hbm, 252, rfl⟩
abbrev main_call15_cst : Ref sig .tc := ⟨.hbm, 253, rfl⟩
abbrev main_call15_v0 : Ref sig .tc := ⟨.hbm, 254, rfl⟩
abbrev main_call15_v1 : Ref sig .tc := ⟨.hbm, 255, rfl⟩
abbrev main_call15_cst_0 : Ref sig .tc := ⟨.hbm, 256, rfl⟩
abbrev main_call15_v2 : Ref sig .tc := ⟨.hbm, 257, rfl⟩
abbrev main_call15_v3 : Ref sig .tc := ⟨.hbm, 258, rfl⟩
abbrev main_call15_cst_1 : Ref sig .tc := ⟨.hbm, 259, rfl⟩
abbrev main_call15_call0_v0 : Ref sig .tc := ⟨.hbm, 260, rfl⟩
abbrev main_call15_call0_v1 : Ref sig .tc := ⟨.hbm, 261, rfl⟩
abbrev main_call15_v4 : Ref sig .tc := ⟨.hbm, 262, rfl⟩
abbrev main_call15_v5 : Ref sig .tc := ⟨.hbm, 263, rfl⟩
abbrev main_call15_cst_2 : Ref sig .tc := ⟨.hbm, 264, rfl⟩
abbrev main_call15_v6 : Ref sig .tc := ⟨.hbm, 265, rfl⟩
abbrev main_call15_v7 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_cst_38 : Ref sig .tc := ⟨.hbm, 278, rfl⟩
abbrev main_v150 : Ref sig .tc := ⟨.hbm, 279, rfl⟩
abbrev main_v151 : Ref sig .tc := ⟨.hbm, 280, rfl⟩
abbrev main_cst_39 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_c_40 : Ref sig .tc := ⟨.hbm, 285, rfl⟩
abbrev main_v155 : Ref sig .tc := ⟨.hbm, 286, rfl⟩
abbrev main_v156 : Ref sig .tc := ⟨.hbm, 287, rfl⟩
abbrev main_cst_41 : Ref sig .tc := ⟨.hbm, 288, rfl⟩
abbrev main_call17_v0 : Ref sig .tc := ⟨.hbm, 289, rfl⟩
abbrev main_call17_v1 : Ref sig .tc := ⟨.hbm, 290, rfl⟩
abbrev main_v157 : Ref sig .tc := ⟨.hbm, 291, rfl⟩
abbrev main_cst_42 : Ref sig .tc := ⟨.hbm, 292, rfl⟩
abbrev main_v158 : Ref sig .tc := ⟨.hbm, 293, rfl⟩
abbrev main_cst_43 : Ref sig .tc := ⟨.hbm, 294, rfl⟩
abbrev main_v159 : Ref sig .tc := ⟨.hbm, 295, rfl⟩
abbrev main_v160 : Ref sig .tc := ⟨.hbm, 296, rfl⟩
abbrev main_v161 : Ref sig .tc := ⟨.hbm, 297, rfl⟩
abbrev main_v162 : Ref sig .tc := ⟨.hbm, 298, rfl⟩
abbrev main_v163 : Ref sig .tc := ⟨.hbm, 299, rfl⟩
abbrev main_v164 : Ref sig .tc := ⟨.hbm, 300, rfl⟩
abbrev main_cst_44 : Ref sig .tc := ⟨.hbm, 301, rfl⟩
abbrev main_v165 : Ref sig .tc := ⟨.hbm, 302, rfl⟩
abbrev main_v166 : Ref sig .tc := ⟨.hbm, 303, rfl⟩
abbrev main_v167 : Ref sig .tc := ⟨.hbm, 304, rfl⟩
abbrev main_v168 : Ref sig .tc := ⟨.hbm, 305, rfl⟩
abbrev main_c_45 : Ref sig .tc := ⟨.hbm, 306, rfl⟩
abbrev main_v169 : Ref sig .tc := ⟨.hbm, 307, rfl⟩
abbrev main_v170 : Ref sig .tc := ⟨.hbm, 308, rfl⟩
abbrev main_c_46 : Ref sig .tc := ⟨.hbm, 309, rfl⟩
abbrev main_v171 : Ref sig .tc := ⟨.hbm, 310, rfl⟩
abbrev main_v172 : Ref sig .tc := ⟨.hbm, 311, rfl⟩
abbrev main_cst_47 : Ref sig .tc := ⟨.hbm, 312, rfl⟩
abbrev main_call18_v0 : Ref sig .tc := ⟨.hbm, 313, rfl⟩
abbrev main_call18_v1 : Ref sig .tc := ⟨.hbm, 314, rfl⟩
abbrev main_call18_v2 : Ref sig .tc := ⟨.hbm, 315, rfl⟩
abbrev main_v173 : Ref sig .tc := ⟨.hbm, 316, rfl⟩
abbrev main_v174 : Ref sig .tc := ⟨.hbm, 317, rfl⟩

abbrev nD : Nat := 1
abbrev τ : Topo := Topo.v7x

variable {F : FTy → Type} [FloatOps F]
-- ==== Proof.KernelIdealLaunch.lean ====
/- The launch facts of `KernelIdeal`: per kernel call the layout of its windows, the points of its grid, and `main` as a
   chain of host stretches and kernel calls. -/
module

public import proofs.«01_k».proof.Proof.Gen.KernelIdeal
public import Idealize.ShloMosaic.Lib.Pipeline.Kit
public import Idealize.ShloMosaic.Lib.Pipeline.Regions

@[expose] public section

set_option maxRecDepth 1028

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 3 → List (DmaSem sig) :=
  fun | 0 => Pipeline.specSems spec0 | 1 => Pipeline.specSems spec1 | 2 => Pipeline.specSems spec2 | ⟨_ + 3, h⟩ => absurd h (Nat.not_lt.2 (Nat.le_add_left _ _))
/-- Within each custom_call, no two staging buffers complete on one DMA semaphore. -/
theorem semsDistinct : ∀ p : Fin 3, (semTab p).Nodup := by decide
/-- No two custom_calls' staging buffers share a DMA semaphore. -/
theorem semsDisjoint : ∀ p p' : Fin 3, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | 1 => rfl | 2 => rfl | ⟨_ + 3, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 9, 0 < (spec0 w).block.numel := by decide
/-- The windows' arrays and the staging memrefs are whole buffers. -/
theorem arr_whole0 : ∀ w : Fin 9, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | ⟨_ + 9, h⟩ => absurd h (Nat.not_lt.2 (Nat.le_add_left _ _))
theorem stage_whole0 : ∀ (w : Fin 9) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | ⟨_ + 9, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 16 points. -/
theorem N_0 : grid0.N = 16 := by decide
/-- Point 0. -/
def t0_0 : Fin grid0.N := ⟨0, by rw [N_0]; decide⟩
/-- Point 1. -/
def t0_1 : Fin grid0.N := ⟨1, by rw [N_0]; decide⟩
/-- Point 2. -/
def t0_2 : Fin grid0.N := ⟨2, by rw [N_0]; decide⟩
/-- Point 3. -/
def t0_3 : Fin grid0.N := ⟨3, by rw [N_0]; decide⟩
/-- Point 4. -/
def t0_4 : Fin grid0.N := ⟨4, by rw [N_0]; decide⟩
/-- Point 5. -/
def t0_5 : Fin grid0.N := ⟨5, by rw [N_0]; decide⟩
/-- Point 6. -/
def t0_6 : Fin grid0.N := ⟨6, by rw [N_0]; decide⟩
/-- Point 7. -/
def t0_7 : Fin grid0.N := ⟨7, by rw [N_0]; decide⟩
/-- Point 8. -/
def t0_8 : Fin grid0.N := ⟨8, by rw [N_0]; decide⟩
/-- Point 9. -/
def t0_9 : Fin grid0.N := ⟨9, by rw [N_0]; decide⟩
/-- Point 10. -/
def t0_10 : Fin grid0.N := ⟨10, by rw [N_0]; decide⟩
/-- Point 11. -/
def t0_11 : Fin grid0.N := ⟨11, by rw [N_0]; decide⟩
/-- Point 12. -/
def t0_12 : Fin grid0.N := ⟨12, by rw [N_0]; decide⟩
/-- Point 13. -/
def t0_13 : Fin grid0.N := ⟨13, by rw [N_0]; decide⟩
/-- Point 14. -/
def t0_14 : Fin grid0.N := ⟨14, by rw [N_0]; decide⟩
/-- Point 15. -/
def t0_15 : Fin grid0.N := ⟨15, by rw [N_0]; decide⟩
/-- Every point is one of them. -/
theorem fin_N0 (t : Fin grid0.N) : t = t0_0 ∨ t = t0_1 ∨ t = t0_2 ∨ t = t0_3 ∨ t = t0_4 ∨ t = t0_5 ∨ t = t0_6 ∨ t = t0_7 ∨ t = t0_8 ∨ t = t0_9 ∨ t = t0_10 ∨ t = t0_11 ∨ t = t0_12 ∨ t = t0_13 ∨ t = t0_14 ∨ t = t0_15 := by
  obtain ⟨t, ht⟩ := t; have := N_0; simp only [t0_0, t0_1, t0_2, t0_3, t0_4, t0_5, t0_6, t0_7, t0_8, t0_9, t0_10, t0_11, t0_12, t0_13, t0_14, t0_15, Fin.mk.injEq]; omega

/-- The windows conjoined one by one. -/
theorem bigSep_W0 {M : Type} [URA M] (Φ : Fin 9 → sProp M) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

/-! ## custom_call 1 (pipeline 1 of @main) -/

/-- The layout the launch needs: the windows' arrays unscoped, distinct buffers, the staging buffers scoped and
    distinct, the staging semaphores scoped. -/
theorem winFacts1 : Pipeline.WinFacts spec1 := by decide
/-- No window's block is empty. -/
theorem block_pos1 : ∀ w : Fin 14, 0 < (spec1 w).block.numel := by decide
/-- The windows' arrays and the staging memrefs are whole buffers. -/
theorem arr_whole1 : ∀ w : Fin 14, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | ⟨_ + 14, h⟩ => absurd h (Nat.not_lt.2 (Nat.le_add_left _ _))
theorem stage_whole1 : ∀ (w : Fin 14) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | 7 => fun s => hstage1_7 (s.cast nbuf1_7) | 8 => fun s => hstage1_8 (s.cast nbuf1_8) | 9 => fun s => hstage1_9 (s.cast nbuf1_9) | 10 => fun s => hstage1_10 (s.cast nbuf1_10) | 11 => fun s => hstage1_11 (s.cast nbuf1_11) | 12 => fun s => hstage1_12 (s.cast nbuf1_12) | 13 => fun s => hstage1_13 (s.cast nbuf1_13) | ⟨_ + 14, h⟩ => absurd h (Nat.not_lt.2 (Nat.le_add_left _ _))
/-- The five, bundled: what the kit-form launch theorems (Lib/Pipeline/Kit.lean `θ_run_region*_kit`) take. -/
theorem launch1 : Pipeline.LaunchFacts (nD := nD) (τ := τ) cfgs 1 := ⟨cellOf_inj, winFacts1, block_pos1, arr_whole1, stage_whole1⟩

/-- The grid has 16 points. -/
theorem N_1 : grid1.N = 16 := by decide
/-- Point 0. -/
def t1_0 : Fin grid1.N := ⟨0, by rw [N_1]; decide⟩
/-- Point 1. -/
def t1_1 : Fin grid1.N := ⟨1, by rw [N_1]; decide⟩
/-- Point 2. -/
def t1_2 : Fin grid1.N := ⟨2, by rw [N_1]; decide⟩
/-- Point 3. -/
def t1_3 : Fin grid1.N := ⟨3, by rw [N_1]; decide⟩
/-- Point 4. -/
def t1_4 : Fin grid1.N := ⟨4, by rw [N_1]; decide⟩
/-- Point 5. -/
def t1_5 : Fin grid1.N := ⟨5, by rw [N_1]; decide⟩
/-- Point 6. -/
def t1_6 : Fin grid1.N := ⟨6, by rw [N_1]; decide⟩
/-- Point 7. -/
def t1_7 : Fin grid1.N := ⟨7, by rw [N_1]; decide⟩
/-- Point 8. -/
def t1_8 : Fin grid1.N := ⟨8, by rw [N_1]; decide⟩
/-- Point 9. -/
def t1_9 : Fin grid1.N := ⟨9, by rw [N_1]; decide⟩
/-- Point 10. -/
def t1_10 : Fin grid1.N := ⟨10, by rw [N_1]; decide⟩
/-- Point 11. -/
def t1_11 : Fin grid1.N := ⟨11, by rw [N_1]; decide⟩
/-- Point 12. -/
def t1_12 : Fin grid1.N := ⟨12, by rw [N_1]; decide⟩
/-- Point 13. -/
def t1_13 : Fin grid1.N := ⟨13, by rw [N_1]; decide⟩
/-- Point 14. -/
def t1_14 : Fin grid1.N := ⟨14, by rw [N_1]; decide⟩
/-- Point 15. -/
def t1_15 : Fin grid1.N := ⟨15, by rw [N_1]; decide⟩
/-- Every point is one of them. -/
theorem fin_N1 (t : Fin grid1.N) : t = t1_0 ∨ t = t1_1 ∨ t = t1_2 ∨ t = t1_3 ∨ t = t1_4 ∨ t = t1_5 ∨ t = t1_6 ∨ t = t1_7 ∨ t = t1_8 ∨ t = t1_9 ∨ t = t1_10 ∨ t = t1_11 ∨ t = t1_12 ∨ t = t1_13 ∨ t = t1_14 ∨ t = t1_15 := by
  obtain ⟨t, ht⟩ := t; have := N_1; simp only [t1_0, t1_1, t1_2, t1_3, t1_4, t1_5, t1_6, t1_7, t1_8, t1_9, t1_10, t1_11, t1_12, t1_13, t1_14, t1_15, Fin.mk.injEq]; omega

/-- The windows conjoined one by one. -/
theorem bigSep_W1 {M : Type} [URA M] (Φ : Fin 14 → sProp M) : bigSep Finset.univ Φ = iprop(Φ (0 : Fin 14) ∗ Φ (1 : Fin 14) ∗ Φ (2 : Fin 14) ∗ Φ (3 : Fin 14) ∗ Φ (4 : Fin 14) ∗ Φ (5 : Fin 14) ∗ Φ (6 : Fin 14) ∗ Φ (7 : Fin 14) ∗ Φ (8 : Fin 14) ∗ Φ (9 : Fin 14) ∗ Φ (10 : Fin 14) ∗ Φ (11 : Fin 14) ∗ Φ (12 : Fin 14) ∗ Φ (13 : Fin 14)) :=
  bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide) Φ

/-! ## custom_call 2 (pipeline 2 of @main) -/

/-- The layout the launch needs: the windows' arrays unscoped, distinct buffers, the staging buffers scoped and
    distinct, the staging semaphores scoped. -/
theorem winFacts2 : Pipeline.WinFacts spec2 := by decide
/-- No window's block is empty. -/
theorem block_pos2 : ∀ w : Fin 7, 0 < (spec2 w).block.numel := by decide
/-- The windows' arrays and the staging memrefs are whole buffers. -/
theorem arr_whole2 : ∀ w : Fin 7, (spec2 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole2 : ∀ (w : Fin 7) (s : Fin (spec2 w).nbuf), ((spec2 w).stage s).IsWhole := fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4) | 5 => fun s => hstage2_5 (s.cast nbuf2_5) | 6 => fun s => hstage2_6 (s.cast nbuf2_6) | ⟨_ + 7, h⟩ => absurd h (Nat.not_lt.2 (Nat.le_add_left _ _))
/-- The five, bundled: what the kit-form launch theorems (Lib/Pipeline/Kit.lean `θ_run_region*_kit`) take. -/
theorem launch2 : Pipeline.LaunchFacts (nD := nD) (τ := τ) cfgs 2 := ⟨cellOf_inj, winFacts2, block_pos2, arr_whole2, stage_whole2⟩

/-- The grid has 16 points. -/
theorem N_2 : grid2.N = 16 := by decide
/-- Point 0. -/
def t2_0 : Fin grid2.N := ⟨0, by rw [N_2]; decide⟩
/-- Point 1. -/
def t2_1 : Fin grid2.N := ⟨1, by rw [N_2]; decide⟩
/-- Point 2. -/
def t2_2 : Fin grid2.N := ⟨2, by rw [N_2]; decide⟩
/-- Point 3. -/
def t2_3 : Fin grid2.N := ⟨3, by rw [N_2]; decide⟩
/-- Point 4. -/
def t2_4 : Fin grid2.N := ⟨4, by rw [N_2]; decide⟩
/-- Point 5. -/
def t2_5 : Fin grid2.N := ⟨5, by rw [N_2]; decide⟩
/-- Point 6. -/
def t2_6 : Fin grid2.N := ⟨6, by rw [N_2]; decide⟩
/-- Point 7. -/
def t2_7 : Fin grid2.N := ⟨7, by rw [N_2]; decide⟩
/-- Point 8. -/
def t2_8 : Fin grid2.N := ⟨8, by rw [N_2]; decide⟩
/-- Point 9. -/
def t2_9 : Fin grid2.N := ⟨9, by rw [N_2]; decide⟩
/-- Point 10. -/
def t2_10 : Fin grid2.N := ⟨10, by rw [N_2]; decide⟩
/-- Point 11. -/
def t2_11 : Fin grid2.N := ⟨11, by rw [N_2]; decide⟩
/-- Point 12. -/
def t2_12 : Fin grid2.N := ⟨12, by rw [N_2]; decide⟩
/-- Point 13. -/
def t2_13 : Fin grid2.N := ⟨13, by rw [N_2]; decide⟩
/-- Point 14. -/
def t2_14 : Fin grid2.N := ⟨14, by rw [N_2]; decide⟩
/-- Point 15. -/
def t2_15 : Fin grid2.N := ⟨15, by rw [N_2]; decide⟩
/-- Every point is one of them. -/
theorem fin_N2 (t : Fin grid2.N) : t = t2_0 ∨ t = t2_1 ∨ t = t2_2 ∨ t = t2_3 ∨ t = t2_4 ∨ t = t2_5 ∨ t = t2_6 ∨ t = t2_7 ∨ t = t2_8 ∨ t = t2_9 ∨ t = t2_10 ∨ t = t2_11 ∨ t = t2_12 ∨ t = t2_13 ∨ t = t2_14 ∨ t = t2_15 := by
  obtain ⟨t, ht⟩ := t; have := N_2; simp only [t2_0, t2_1, t2_2, t2_3, t2_4, t2_5, t2_6, t2_7, t2_8, t2_9, t2_10, t2_11, t2_12, t2_13, t2_14, t2_15, Fin.mk.injEq]; omega

/-- The windows conjoined one by one. -/
theorem bigSep_W2 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

/-! ## @main as segments and as a chain of items (Lib/Pipeline/Regions.lean `θ_run_regions_kit`, `Pipeline.chain`) -/

/-- 42 host operations of @main, in order. -/
abbrev hostOps0 : List (HloOp τ sig (Elt F)) :=
  ( StableHlo.unary main_arg2 main_v0 (broadcastInDim S1x512x64 ![1, 2] bcast_S512x64_S1x512x64_1_2 : (⟨S512x64, .f32⟩ : BufTy).Contents (Elt F) → (⟨S1x512x64, .f32⟩ : BufTy).Contents (Elt F))
  :: StableHlo.unary main_arg4 main_v1 (broadcastInDim S1x512x64 ![1, 2] bcast_S512x64_S1x512x64_1_2 : (⟨S512x64, .f32⟩ : BufTy).Contents (Elt F) → (⟨S1x512x64, .f32⟩ : BufTy).Contents (Elt F))
  :: StableHlo.unary main_arg6 main_v2 (broadcastInDim S1x512x64 ![1, 2] bcast_S512x64_S1x512x64_1_2 : (⟨S512x64, .f32⟩ : BufTy).Contents (Elt F) → (⟨S1x512x64, .f32⟩ : BufTy).Contents (Elt F))
  :: StableHlo.unary main_arg8 main_v3 (broadcastInDim S1x512x64 ![1, 2] bcast_S512x64_S1x512x64_1_2 : (⟨S512x64, .f32⟩ : BufTy).Contents (Elt F) → (⟨S1x512x64, .f32⟩ : BufTy).Contents (Elt F))
  :: StableHlo.nary ![main_v0, main_v1, main_v2, main_v3] main_v4 (fun u => (concatenate S4x512x64 0 [⟨S1x512x64, (u 0 : (⟨S1x512x64, .f32⟩ : BufTy).Contents (Elt F))⟩, ⟨S1x512x64, (u 1 : (⟨S1x512x64, .f32⟩ : BufTy).Contents (Elt F))⟩, ⟨S1x512x64, (u 2 : (⟨S1x512x64, .f32⟩ : BufTy).Contents (Elt F))⟩, ⟨S1x512x64, (u 3 : (⟨S1x512x64, .f32⟩ : BufTy).Contents (Elt F))⟩] concatenates_S1x512x64_S1x512x64_S1x512x64_S1x512x64_S4x512x64_d0 : (⟨S4x512x64, .f32⟩ : BufTy).Contents (Elt F)))
  :: StableHlo.unary main_arg3 main_v5 ((extractStridedSlice S64x1 ![0, 0] · slices_S128x1_S64x1_0_0) : (⟨S128x1, .f32⟩ : BufTy).Contents (Elt F) → (⟨S64x1, .f32⟩ : BufTy).Contents (Elt F))
  :: StableHlo.unary main_arg5 main_v6 ((extractStridedSlice S64x1 ![0, 0] · slices_S128x1_S64x1_0_0) : (⟨S128x1, .f32⟩ : BufTy).Contents (Elt F) → (⟨S64x1, .f32⟩ : BufTy).Contents (Elt F))
  :: StableHlo.unary main_arg7 main_v7 ((extractStridedSlice S64x1 ![0, 0] · slices_S128x1_S64x1_0_0) : (⟨S128x1, .f32⟩ : BufTy).Contents (Elt F) → (⟨S64x1, .f32⟩ : BufTy).Contents (Elt F))
  :: StableHlo.unary main_arg9 main_v8 ((extractStridedSlice S64x1 ![0, 0] · slices_S128x1_S64x1_0_0) : (⟨S128x1, .f32⟩ : BufTy).Contents (Elt F) → (⟨S64x1, .f32⟩ : BufTy).Contents (Elt F))
  :: StableHlo.unary main_v5 main_v9 (broadcastInDim S1x64x1 ![1, 2] bcast_S64x1_S1x64x1_1_2 : (⟨S64x1, .f32⟩ : BufTy).Contents (Elt F) → (⟨S1x64x1, .f32⟩ : BufTy).Contents (Elt F))
  :: StableHlo.unary main_v6 main_v10 (broadcastInDim S1x64x1 ![1, 2] bcast_S64x1_S1x64x1_1_2 : (⟨S64x1, .f32⟩ : BufTy).Contents (Elt F) → (⟨S1x64x1, .f32⟩ : BufTy).Contents (Elt F))
  :: StableHlo.unary main_v7 main_v11 (broadcastInDim S1x64x1 ![1, 2] bcast_S64x1_S1x64x1_1_2 : (⟨S64x1, .f32⟩ : BufTy).Contents (Elt F) → (⟨S1x64x1, .f32⟩ : BufTy).Contents (Elt F))
  :: StableHlo.unary main_v8 main_v12 (broadcastInDim S1x64x1 ![1, 2] bcast_S64x1_S1x64x1_1_2 : (⟨S64x1, .f32⟩ : BufTy).Contents (Elt F) → (⟨S1x64x1, .f32⟩ : BufTy).Contents (Elt F))
  :: StableHlo.nary ![main_v9, main_v10, main_v11, main_v12] main_v13 (fun u => (concatenate S4x64x1 0 [⟨S1x64x1, (u 0 : (⟨S1x64x1, .f32⟩ : BufTy).Contents (Elt F))⟩, ⟨S1x64x1, (u 1 : (⟨S1x64x1, .f32⟩ : BufTy).Contents (Elt F))⟩, ⟨S1x64x1, (u 2 : (⟨S1x64x1, .f32⟩ : BufTy).Contents (Elt F))⟩, ⟨S1x64x1, (u 3 : (⟨S1x64x1, .f32⟩ : BufTy).Contents (Elt F))⟩] concatenates_S1x64x1_S1x64x1_S1x64x1_S1x64x1_S4x64x1_d0 : (⟨S4x64x1, .f32⟩ : BufTy).Contents (Elt F)))
  :: StableHlo.unary main_arg3 main_v14 ((extractStridedSlice S64x1 ![64, 0] · slices_S128x1_S64x1_64_0) : (⟨S128x1, .f32⟩ : BufTy).Contents (Elt F) → (⟨S64x1, .f32⟩ : BufTy).Contents (Elt F))
  :: StableHlo.unary main_arg5 main_v15 ((extractStridedSlice S64x1 ![64, 0] · slices_S128x1_S64x1_64_0) : (⟨S128x1, .f32⟩ : BufTy).Contents (Elt F) → (⟨S64x1, .f32⟩ : BufTy).Contents (Elt F))
  :: StableHlo.unary main_arg7 main_v16 ((extractStridedSlice S64x1 ![64, 0] · slices_S128x1_S64x1_64_0) : (⟨S128x1, .f32⟩ : BufTy).Contents (Elt F) → (⟨S64x1, .f32⟩ : BufTy).Contents (Elt F))
  :: StableHlo.unary main_arg9 main_v17 ((extractStridedSlice S64x1 ![64, 0] · slices_S128x1_S64x1_64_0) : (⟨S128x1, .f32⟩ : BufTy).Contents (Elt F) → (⟨S64x1, .f32⟩ : BufTy).Contents (Elt F))
  :: StableHlo.unary main_v14 main_v18 (broadcastInDim S1x64x1 ![1, 2] bcast_S64x1_S1x64x1_1_2 : (⟨S64x1, .f32⟩ : BufTy).Contents (Elt F) → (⟨S1x64x1, .f32⟩ : BufTy).Contents (Elt F))
  :: StableHlo.unary main_v15 main_v19 (broadcastInDim S1x64x1 ![1, 2] bcast_S64x1_S1x64x1_1_2 : (⟨S64x1, .f32⟩ : BufTy).Contents (Elt F) → (⟨S1x64x1, .f32⟩ : BufTy).Contents (Elt F))
  :: StableHlo.unary main_v16 main_v20 (broadcastInDim S1x64x1 ![1, 2] bcast_S64x1_S1x64x1_1_2 : (⟨S64x1, .f32⟩ : BufTy).Contents (Elt F) → (⟨S1x64x1, .f32⟩ : BufTy).Contents (Elt F))
  :: StableHlo.unary main_v17 main_v21 (broadcastInDim S1x64x1 ![1, 2] bcast_S64x1_S1x64x1_1_2 : (⟨S64x1, .f32⟩ : BufTy).Contents (Elt F) → (⟨S1x64x1, .f32⟩ : BufTy).Contents (Elt F))
  :: StableHlo.nary ![main_v18, main_v19, main_v20, main_v21] main_v22 (fun u => (concatenate S4x64x1 0 [⟨S1x64x1, (u 0 : (⟨S1x64x1, .f32⟩ : BufTy).Contents (Elt F))⟩, ⟨S1x64x1, (u 1 : (⟨S1x64x1, .f32⟩ : BufTy).Contents (Elt F))⟩, ⟨S1x64x1, (u 2 : (⟨S1x64x1, .f32⟩ : BufTy).Contents (Elt F))⟩, ⟨S1x64x1, (u 3 : (⟨S1x64x1, .f32⟩ : BufTy).Contents (Elt F))⟩] concatenates_S1x64x1_S1x64x1_S1x64x1_S1x64x1_S4x64x1_d0 : (⟨S4x64x1, .f32⟩ : BufTy).Contents (Elt F)))
  :: StableHlo.nullary main_cst (constant S_ .f32 0x00000000#32)
  :: StableHlo.unary main_cst main_v23 (broadcastInDim S4x64x128 ![] bcast_S_S4x64x128 : (⟨S_, .f32⟩ : BufTy).Contents (Elt F) → (⟨S4x64x128, .f32⟩ : BufTy).Contents (Elt F))
  :: StableHlo.reshape main_arg10 main_v24 (rfl : (.f32 : EltTy) = .f32) shapeCasts_S256x121_S4x64x121
  :: StableHlo.nullary main_c (constantI S_ 32 0#32)
  :: StableHlo.unary main_c main_v25 (broadcastInDim S1 ![] bcast_S_S1 : (⟨S_, .i32⟩ : BufTy).Contents (Elt F) → (⟨S1, .i32⟩ : BufTy).Contents (Elt F))
  :: StableHlo.ternary main_v23 main_v25 main_v24 main_v26 ((fun x i u => Host.scatter scatter_S4x64x128_S1_S4x64x121_012_n_2_0 (fun _ b => b) x i u) : (⟨S4x64x128, .f32⟩ : BufTy).Contents (Elt F) → (⟨S1, .i32⟩ : BufTy).Contents (Elt F) → (⟨S4x64x121, .f32⟩ : BufTy).Contents (Elt F) → (⟨S4x64x128, .f32⟩ : BufTy).Contents (Elt F))
  :: StableHlo.unary main_v26 main_v27 ((truncf .bf16 · bitsLt_bf16_f32) : (⟨S4x64x128, .f32⟩ : BufTy).Contents (Elt F) → (⟨S4x64x128, .bf16⟩ : BufTy).Contents (Elt F))
  :: StableHlo.nullary main_cst_0 (constant S_ .f32 0x00000000#32)
  :: StableHlo.unary main_cst_0 main_v28 (broadcastInDim S128x1 ![] bcast_S_S128x1 : (⟨S_, .f32⟩ : BufTy).Contents (Elt F) → (⟨S128x1, .f32⟩ : BufTy).Contents (Elt F))
  :: StableHlo.unary main_arg11 main_v29 ((extractStridedSlice S121x1 ![0, 0] · slices_S242x1_S121x1_0_0) : (⟨S242x1, .f32⟩ : BufTy).Contents (Elt F) → (⟨S121x1, .f32⟩ : BufTy).Contents (Elt F))
  :: StableHlo.nullary main_c_1 (constantI S_ 32 0#32)
  :: StableHlo.unary main_c_1 main_v30 (broadcastInDim S1 ![] bcast_S_S1 : (⟨S_, .i32⟩ : BufTy).Contents (Elt F) → (⟨S1, .i32⟩ : BufTy).Contents (Elt F))
  :: StableHlo.ternary main_v28 main_v30 main_v29 main_v31 ((fun x i u => Host.scatter scatter_S128x1_S1_S121x1_01_n_0_0 (fun _ b => b) x i u) : (⟨S128x1, .f32⟩ : BufTy).Contents (Elt F) → (⟨S1, .i32⟩ : BufTy).Contents (Elt F) → (⟨S121x1, .f32⟩ : BufTy).Contents (Elt F) → (⟨S128x1, .f32⟩ : BufTy).Contents (Elt F))
  :: StableHlo.nullary main_cst_2 (constant S_ .f32 0x00000000#32)
  :: StableHlo.unary main_cst_2 main_v32 (broadcastInDim S128x1 ![] bcast_S_S128x1 : (⟨S_, .f32⟩ : BufTy).Contents (Elt F) → (⟨S128x1, .f32⟩ : BufTy).Contents (Elt F))
  :: StableHlo.unary main_arg11 main_v33 ((extractStridedSlice S121x1 ![121, 0] · slices_S242x1_S121x1_121_0) : (⟨S242x1, .f32⟩ : BufTy).Contents (Elt F) → (⟨S121x1, .f32⟩ : BufTy).Contents (Elt F))
  :: StableHlo.nullary main_c_3 (constantI S_ 32 0#32)
  :: StableHlo.unary main_c_3 main_v34 (broadcastInDim S1 ![] bcast_S_S1 : (⟨S_, .i32⟩ : BufTy).Contents (Elt F) → (⟨S1, .i32⟩ : BufTy).Contents (Elt F))
  :: StableHlo.ternary main_v32 main_v34 main_v33 main_v35 ((fun x i u => Host.scatter scatter_S128x1_S1_S121x1_01_n_0_0 (fun _ b => b) x i u) : (⟨S128x1, .f32⟩ : BufTy).Contents (Elt F) → (⟨S1, .i32⟩ : BufTy).Contents (Elt F) → (⟨S121x1, .f32⟩ : BufTy).Contents (Elt F) → (⟨S128x1, .f32⟩ : BufTy).Contents (Elt F))
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.ternary_bufs_sub .., StableHlo.unary_bufs_sub .., StableHlo.nullary_bufs_sub .., StableHlo.unary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.nullary_bufs_sub .., StableHlo.unary_bufs_sub .., StableHlo.ternary_bufs_sub ..⟩
/-- 9 host operations of @main, in order. -/
abbrev hostOps1 : List (HloOp τ sig (Elt F)) :=
  [ StableHlo.unary main_v36_2 main_v37 ((transpose S4x4096 [1, 0] · transposes_S4096x4_S4x4096_1_0) : (⟨S4096x4, .f32⟩ : BufTy).Contents (Elt F) → (⟨S4x4096, .f32⟩ : BufTy).Contents (Elt F)),
    StableHlo.nullary main_cst_4 (constant S_ .f32 0xFF800000#32),
    StableHlo.binary main_v36_4 main_cst_4 main_v38 ((fun x v => Host.reduce FloatOps.maximumf x v reducesTo_S16x1x4_S1x4_d0 h_S_) : (⟨S16x1x4, .f32⟩ : BufTy).Contents (Elt F) → (⟨S_, .f32⟩ : BufTy).Contents (Elt F) → (⟨S1x4, .f32⟩ : BufTy).Contents (Elt F)),
    StableHlo.nullary main_cst_5 (constant S_ .f32 0x00000000#32),
    StableHlo.binary main_v36_3 main_cst_5 main_v39 ((fun x v => Host.reduceAdd x v reducesTo_S16x4x1x64_S4x1x64_d0 h_S_) : (⟨S16x4x1x64, .f32⟩ : BufTy).Contents (Elt F) → (⟨S_, .f32⟩ : BufTy).Contents (Elt F) → (⟨S4x1x64, .f32⟩ : BufTy).Contents (Elt F)),
    StableHlo.reshape main_v39 main_v40 (rfl : (.f32 : EltTy) = .f32) shapeCasts_S4x1x64_S4x64,
    StableHlo.nullary main_cst_6 (constant S_ .f32 0x39800000#32),
    StableHlo.unary main_cst_6 main_v41 (broadcastInDim S4x64 ![] bcast_S_S4x64 : (⟨S_, .f32⟩ : BufTy).Contents (Elt F) → (⟨S4x64, .f32⟩ : BufTy).Contents (Elt F)),
    StableHlo.binary main_v40 main_v41 main_v42 (mulf : (⟨S4x64, .f32⟩ : BufTy).Contents (Elt F) → (⟨S4x64, .f32⟩ : BufTy).Contents (Elt F) → (⟨S4x64, .f32⟩ : BufTy).Contents (Elt F)) ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.binary_bufs_sub .., StableHlo.reshape_bufs_sub .., StableHlo.nullary_bufs_sub .., StableHlo.unary_bufs_sub .., StableHlo.binary_bufs_sub ..⟩
/-- 8 host operations of @main, in order. -/
abbrev hostOps2 : List (HloOp τ sig (Elt F)) :=
  [ StableHlo.reshape main_v43_2 main_v44 (rfl : (.f32 : EltTy) = .f32) shapeCasts_S4096x1_S1x4096,
    StableHlo.nullary main_cst_7 (constant S_ .f32 0xFF800000#32),
    StableHlo.binary main_v43_4 main_cst_7 main_v45 ((fun x v => Host.reduce FloatOps.maximumf x v reducesTo_S16x1x1_S1x1_d0 h_S_) : (⟨S16x1x1, .f32⟩ : BufTy).Contents (Elt F) → (⟨S_, .f32⟩ : BufTy).Contents (Elt F) → (⟨S1x1, .f32⟩ : BufTy).Contents (Elt F)),
    StableHlo.nullary main_cst_8 (constant S_ .f32 0x00000000#32),
    StableHlo.binary main_v43_3 main_cst_8 main_v46 ((fun x v => Host.reduceAdd x v reducesTo_S16x1x128_S1x128_d0 h_S_) : (⟨S16x1x128, .f32⟩ : BufTy).Contents (Elt F) → (⟨S_, .f32⟩ : BufTy).Contents (Elt F) → (⟨S1x128, .f32⟩ : BufTy).Contents (Elt F)),
    StableHlo.nullary main_cst_9 (constant S_ .f32 0x39800000#32),
    StableHlo.unary main_cst_9 main_v47 (broadcastInDim S1x128 ![] bcast_S_S1x128 : (⟨S_, .f32⟩ : BufTy).Contents (Elt F) → (⟨S1x128, .f32⟩ : BufTy).Contents (Elt F)),
    StableHlo.binary main_v46 main_v47 main_v48 (mulf : (⟨S1x128, .f32⟩ : BufTy).Contents (Elt F) → (⟨S1x128, .f32⟩ : BufTy).Contents (Elt F) → (⟨S1x128, .f32⟩ : BufTy).Contents (Elt F)) ]
/-- Each touches TensorCore references only (`HostSeg.ofOps` over `StableHlo.tcRefs`, or a subset by `sub_ucRefs`). -/
theorem hostOps2_sub : (hostOps2 : List (HloOp τ sig (Elt F))).Forall fun op => op.bufs ⊆ StableHlo.tcRefs τ sig :=
  ⟨StableHlo.reshape_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub ..⟩
/-- 1 host operation of @main, in order. -/
abbrev hostOps3 : List (HloOp τ sig (Elt F)) :=
  [ StableHlo.unary main_v49 main_v50 ((extractStridedSlice S4096x121 ![0, 0] · slices_S4096x128_S4096x121_0_0) : (⟨S4096x128, .f32⟩ : BufTy).Contents (Elt F) → (⟨S4096x121, .f32⟩ : BufTy).Contents (Elt F)) ]
/-- Each touches TensorCore references only (`HostSeg.ofOps` over `StableHlo.tcRefs`, or a subset by `sub_ucRefs`). -/
theorem hostOps3_sub : (hostOps3 : List (HloOp τ sig (Elt F))).Forall fun op => op.bufs ⊆ StableHlo.tcRefs τ sig :=
  StableHlo.unary_bufs_sub ..
/-- 42 host operations of @main, window 0 (statements 1 … 60), in order. -/
abbrev main_part0_ops0 : List (HloOp τ sig (Elt F)) :=
  ( StableHlo.unary main_arg2 main_v0 (broadcastInDim S1x512x64 ![1, 2] bcast_S512x64_S1x512x64_1_2 : (⟨S512x64, .f32⟩ : BufTy).Contents (Elt F) → (⟨S1x512x64, .f32⟩ : BufTy).Contents (Elt F))
  :: StableHlo.unary main_arg4 main_v1 (broadcastInDim S1x512x64 ![1, 2] bcast_S512x64_S1x512x64_1_2 : (⟨S512x64, .f32⟩ : BufTy).Contents (Elt F) → (⟨S1x512x64, .f32⟩ : BufTy).Contents (Elt F))
  :: StableHlo.unary main_arg6 main_v2 (broadcastInDim S1x512x64 ![1, 2] bcast_S512x64_S1x512x64_1_2 : (⟨S512x64, .f32⟩ : BufTy).Contents (Elt F) → (⟨S1x512x64, .f32⟩ : BufTy).Contents (Elt F))
  :: StableHlo.unary main_arg8 main_v3 (broadcastInDim S1x512x64 ![1, 2] bcast_S512x64_S1x512x64_1_2 : (⟨S512x64, .f32⟩ : BufTy).Contents (Elt F) → (⟨S1x512x64, .f32⟩ : BufTy).Contents (Elt F))
  :: StableHlo.nary ![main_v0, main_v1, main_v2, main_v3] main_v4 (fun u => (concatenate S4x512x64 0 [⟨S1x512x64, (u 0 : (⟨S1x512x64, .f32⟩ : BufTy).Contents (Elt F))⟩, ⟨S1x512x64, (u 1 : (⟨S1x512x64, .f32⟩ : BufTy).Contents (Elt F))⟩, ⟨S1x512x64, (u 2 : (⟨S1x512x64, .f32⟩ : BufTy).Contents (Elt F))⟩, ⟨S1x512x64, (u 3 : (⟨S1x512x64, .f32⟩ : BufTy).Contents (Elt F))⟩] concatenates_S1x512x64_S1x512x64_S1x512x64_S1x512x64_S4x512x64_d0 : (⟨S4x512x64, .f32⟩ : BufTy).Contents (Elt F)))
  :: StableHlo.unary main_arg3 main_v5 ((extractStridedSlice S64x1 ![0, 0] · slices_S128x1_S64x1_0_0) : (⟨S128x1, .f32⟩ : BufTy).Contents (Elt F) → (⟨S64x1, .f32⟩ : BufTy).Contents (Elt F))
  :: StableHlo.unary main_arg5 main_v6 ((extractStridedSlice S64x1 ![0, 0] · slices_S128x1_S64x1_0_0) : (⟨S128x1, .f32⟩ : BufTy).Contents (Elt F) → (⟨S64x1, .f32⟩ : BufTy).Contents (Elt F))
  :: StableHlo.unary main_arg7 main_v7 ((extractStridedSlice S64x1 ![0, 0] · slices_S128x1_S64x1_0_0) : (⟨S128x1, .f32⟩ : BufTy).Contents (Elt F) → (⟨S64x1, .f32⟩ : BufTy).Contents (Elt F))
  :: StableHlo.unary main_arg9 main_v8 ((extractStridedSlice S64x1 ![0, 0] · slices_S128x1_S64x1_0_0) : (⟨S128x1, .f32⟩ : BufTy).Contents (Elt F) → (⟨S64x1, .f32⟩ : BufTy).Contents (Elt F))
  :: StableHlo.unary main_v5 main_v9 (broadcastInDim S1x64x1 ![1, 2] bcast_S64x1_S1x64x1_1_2 : (⟨S64x1, .f32⟩ : BufTy).Contents (Elt F) → (⟨S1x64x1, .f32⟩ : BufTy).Contents (Elt F))
  :: StableHlo.unary main_v6 main_v10 (broadcastInDim S1x64x1 ![1, 2] bcast_S64x1_S1x64x1_1_2 : (⟨S64x1, .f32⟩ : BufTy).Contents (Elt F) → (⟨S1x64x1, .f32⟩ : BufTy).Contents (Elt F))
  :: StableHlo.unary main_v7 main_v11 (broadcastInDim S1x64x1 ![1, 2] bcast_S64x1_S1x64x1_1_2 : (⟨S64x1, .f32⟩ : BufTy).Contents (Elt F) → (⟨S1x64x1, .f32⟩ : BufTy).Contents (Elt F))
  :: StableHlo.unary main_v8 main_v12 (broadcastInDim S1x64x1 ![1, 2] bcast_S64x1_S1x64x1_1_2 : (⟨S64x1, .f32⟩ : BufTy).Contents (Elt F) → (⟨S1x64x1, .f32⟩ : BufTy).Contents (Elt F))
  :: StableHlo.nary ![main_v9, main_v10, main_v11, main_v12] main_v13 (fun u => (concatenate S4x64x1 0 [⟨S1x64x1, (u 0 : (⟨S1x64x1, .f32⟩ : BufTy).Contents (Elt F))⟩, ⟨S1x64x1, (u 1 : (⟨S1x64x1, .f32⟩ : BufTy).Contents (Elt F))⟩, ⟨S1x64x1, (u 2 : (⟨S1x64x1, .f32⟩ : BufTy).Contents (Elt F))⟩, ⟨S1x64x1, (u 3 : (⟨S1x64x1, .f32⟩ : BufTy).Contents (Elt F))⟩] concatenates_S1x64x1_S1x64x1_S1x64x1_S1x64x1_S4x64x1_d0 : (⟨S4x64x1, .f32⟩ : BufTy).Contents (Elt F)))
  :: StableHlo.unary main_arg3 main_v14 ((extractStridedSlice S64x1 ![64, 0] · slices_S128x1_S64x1_64_0) : (⟨S128x1, .f32⟩ : BufTy).Contents (Elt F) → (⟨S64x1, .f32⟩ : BufTy).Contents (Elt F))
  :: StableHlo.unary main_arg5 main_v15 ((extractStridedSlice S64x1 ![64, 0] · slices_S128x1_S64x1_64_0) : (⟨S128x1, .f32⟩ : BufTy).Contents (Elt F) → (⟨S64x1, .f32⟩ : BufTy).Contents (Elt F))
  :: StableHlo.unary main_arg7 main_v16 ((extractStridedSlice S64x1 ![64, 0] · slices_S128x1_S64x1_64_0) : (⟨S128x1, .f32⟩ : BufTy).Contents (Elt F) → (⟨S64x1, .f32⟩ : BufTy).Contents (Elt F))
  :: StableHlo.unary main_arg9 main_v17 ((extractStridedSlice S64x1 ![64, 0] · slices_S128x1_S64x1_64_0) : (⟨S128x1, .f32⟩ : BufTy).Contents (Elt F) → (⟨S64x1, .f32⟩ : BufTy).Contents (Elt F))
  :: StableHlo.unary main_v14 main_v18 (broadcastInDim S1x64x1 ![1, 2] bcast_S64x1_S1x64x1_1_2 : (⟨S64x1, .f32⟩ : BufTy).Contents (Elt F) → (⟨S1x64x1, .f32⟩ : BufTy).Contents (Elt F))
  :: StableHlo.unary main_v15 main_v19 (broadcastInDim S1x64x1 ![1, 2] bcast_S64x1_S1x64x1_1_2 : (⟨S64x1, .f32⟩ : BufTy).Contents (Elt F) → (⟨S1x64x1, .f32⟩ : BufTy).Contents (Elt F))
  :: StableHlo.unary main_v16 main_v20 (broadcastInDim S1x64x1 ![1, 2] bcast_S64x1_S1x64x1_1_2 : (⟨S64x1, .f32⟩ : BufTy).Contents (Elt F) → (⟨S1x64x1, .f32⟩ : BufTy).Contents (Elt F))
  :: StableHlo.unary main_v17 main_v21 (broadcastInDim S1x64x1 ![1, 2] bcast_S64x1_S1x64x1_1_2 : (⟨S64x1, .f32⟩ : BufTy).Contents (Elt F) → (⟨S1x64x1, .f32⟩ : BufTy).Contents (Elt F))
  :: StableHlo.nary ![main_v18, main_v19, main_v20, main_v21] main_v22 (fun u => (concatenate S4x64x1 0 [⟨S1x64x1, (u 0 : (⟨S1x64x1, .f32⟩ : BufTy).Contents (Elt F))⟩, ⟨S1x64x1, (u 1 : (⟨S1x64x1, .f32⟩ : BufTy).Contents (Elt F))⟩, ⟨S1x64x1, (u 2 : (⟨S1x64x1, .f32⟩ : BufTy).Contents (Elt F))⟩, ⟨S1x64x1, (u 3 : (⟨S1x64x1, .f32⟩ : BufTy).Contents (Elt F))⟩] concatenates_S1x64x1_S1x64x1_S1x64x1_S1x64x1_S4x64x1_d0 : (⟨S4x64x1, .f32⟩ : BufTy).Contents (Elt F)))
  :: StableHlo.nullary main_cst (constant S_ .f32 0x00000000#32)
  :: StableHlo.unary main_cst main_v23 (broadcastInDim S4x64x128 ![] bcast_S_S4x64x128 : (⟨S_, .f32⟩ : BufTy).Contents (Elt F) → (⟨S4x64x128, .f32⟩ : BufTy).Contents (Elt F))
  :: StableHlo.reshape main_arg10 main_v24 (rfl : (.f32 : EltTy) = .f32) shapeCasts_S256x121_S4x64x121
  :: StableHlo.nullary main_c (constantI S_ 32 0#32)
  :: StableHlo.unary main_c main_v25 (broadcastInDim S1 ![] bcast_S_S1 : (⟨S_, .i32⟩ : BufTy).Contents (Elt F) → (⟨S1, .i32⟩ : BufTy).Contents (Elt F))
  :: StableHlo.ternary main_v23 main_v25 main_v24 main_v26 ((fun x i u => Host.scatter scatter_S4x64x128_S1_S4x64x121_012_n_2_0 (fun _ b => b) x i u) : (⟨S4x64x128, .f32⟩ : BufTy).Contents (Elt F) → (⟨S1, .i32⟩ : BufTy).Contents (Elt F) → (⟨S4x64x121, .f32⟩ : BufTy).Contents (Elt F) → (⟨S4x64x128, .f32⟩ : BufTy).Contents (Elt F))
  :: StableHlo.unary main_v26 main_v27 ((truncf .bf16 · bitsLt_bf16_f32) : (⟨S4x64x128, .f32⟩ : BufTy).Contents (Elt F) → (⟨S4x64x128, .bf16⟩ : BufTy).Contents (Elt F))
  :: StableHlo.nullary main_cst_0 (constant S_ .f32 0x00000000#32)
  :: StableHlo.unary main_cst_0 main_v28 (broadcastInDim S128x1 ![] bcast_S_S128x1 : (⟨S_, .f32⟩ : BufTy).Contents (Elt F) → (⟨S128x1, .f32⟩ : BufTy).Contents (Elt F))
  :: StableHlo.unary main_arg11 main_v29 ((extractStridedSlice S121x1 ![0, 0] · slices_S242x1_S121x1_0_0) : (⟨S242x1, .f32⟩ : BufTy).Contents (Elt F) → (⟨S121x1, .f32⟩ : BufTy).Contents (Elt F))
  :: StableHlo.nullary main_c_1 (constantI S_ 32 0#32)
  :: StableHlo.unary main_c_1 main_v30 (broadcastInDim S1 ![] bcast_S_S1 : (⟨S_, .i32⟩ : BufTy).Contents (Elt F) → (⟨S1, .i32⟩ : BufTy).Contents (Elt F))
  :: StableHlo.ternary main_v28 main_v30 main_v29 main_v31 ((fun x i u => Host.scatter scatter_S128x1_S1_S121x1_01_n_0_0 (fun _ b => b) x i u) : (⟨S128x1, .f32⟩ : BufTy).Contents (Elt F) → (⟨S1, .i32⟩ : BufTy).Contents (Elt F) → (⟨S121x1, .f32⟩ : BufTy).Contents (Elt F) → (⟨S128x1, .f32⟩ : BufTy).Contents (Elt F))
  :: StableHlo.nullary main_cst_2 (constant S_ .f32 0x00000000#32)
  :: StableHlo.unary main_cst_2 main_v32 (broadcastInDim S128x1 ![] bcast_S_S128x1 : (⟨S_, .f32⟩ : BufTy).Contents (Elt F) → (⟨S128x1, .f32⟩ : BufTy).Contents (Elt F))
  :: StableHlo.unary main_arg11 main_v33 ((extractStridedSlice S121x1 ![121, 0] · slices_S242x1_S121x1_121_0) : (⟨S242x1, .f32⟩ : BufTy).Contents (Elt F) → (⟨S121x1, .f32⟩ : BufTy).Contents (Elt F))
  :: StableHlo.nullary main_c_3 (constantI S_ 32 0#32)
  :: StableHlo.unary main_c_3 main_v34 (broadcastInDim S1 ![] bcast_S_S1 : (⟨S_, .i32⟩ : BufTy).Contents (Elt F) → (⟨S1, .i32⟩ : BufTy).Contents (Elt F))
  :: StableHlo.ternary main_v32 main_v34 main_v33 main_v35 ((fun x i u => Host.scatter scatter_S128x1_S1_S121x1_01_n_0_0 (fun _ b => b) x i u) : (⟨S128x1, .f32⟩ : BufTy).Contents (Elt F) → (⟨S1, .i32⟩ : BufTy).Contents (Elt F) → (⟨S121x1, .f32⟩ : BufTy).Contents (Elt F) → (⟨S128x1, .f32⟩ : BufTy).Contents (Elt F))
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.reshape_bufs_sub .., StableHlo.nullary_bufs_sub .., StableHlo.unary_bufs_sub .., StableHlo.ternary_bufs_sub .., StableHlo.unary_bufs_sub .., StableHlo.nullary_bufs_sub .., StableHlo.unary_bufs_sub .., StableHlo.unary_bufs_sub .., StableHlo.nullary_bufs_sub .., StableHlo.unary_bufs_sub .., StableHlo.ternary_bufs_sub .., StableHlo.nullary_bufs_sub .., StableHlo.unary_bufs_sub .., StableHlo.unary_bufs_sub .., StableHlo.nullary_bufs_sub .., StableHlo.unary_bufs_sub .., StableHlo.ternary_bufs_sub ..⟩
/-- 9 host operations of @main, window 0 (statements 1 … 60), in order. -/
abbrev main_part0_ops1 : List (HloOp τ sig (Elt F)) :=
  [ StableHlo.unary main_v36_2 main_v37 ((transpose S4x4096 [1, 0] · transposes_S4096x4_S4x4096_1_0) : (⟨S4096x4, .f32⟩ : BufTy).Contents (Elt F) → (⟨S4x4096, .f32⟩ : BufTy).Contents (Elt F)),
    StableHlo.nullary main_cst_4 (constant S_ .f32 0xFF800000#32),
    StableHlo.binary main_v36_4 main_cst_4 main_v38 ((fun x v => Host.reduce FloatOps.maximumf x v reducesTo_S16x1x4_S1x4_d0 h_S_) : (⟨S16x1x4, .f32⟩ : BufTy).Contents (Elt F) → (⟨S_, .f32⟩ : BufTy).Contents (Elt F) → (⟨S1x4, .f32⟩ : BufTy).Contents (Elt F)),
    StableHlo.nullary main_cst_5 (constant S_ .f32 0x00000000#32),
    StableHlo.binary main_v36_3 main_cst_5 main_v39 ((fun x v => Host.reduceAdd x v reducesTo_S16x4x1x64_S4x1x64_d0 h_S_) : (⟨S16x4x1x64, .f32⟩ : BufTy).Contents (Elt F) → (⟨S_, .f32⟩ : BufTy).Contents (Elt F) → (⟨S4x1x64, .f32⟩ : BufTy).Contents (Elt F)),
    StableHlo.reshape main_v39 main_v40 (rfl : (.f32 : EltTy) = .f32) shapeCasts_S4x1x64_S4x64,
    StableHlo.nullary main_cst_6 (constant S_ .f32 0x39800000#32),
    StableHlo.unary main_cst_6 main_v41 (broadcastInDim S4x64 ![] bcast_S_S4x64 : (⟨S_, .f32⟩ : BufTy).Contents (Elt F) → (⟨S4x64, .f32⟩ : BufTy).Contents (Elt F)),
    StableHlo.binary main_v40 main_v41 main_v42 (mulf : (⟨S4x64, .f32⟩ : BufTy).Contents (Elt F) → (⟨S4x64, .f32⟩ : BufTy).Contents (Elt F) → (⟨S4x64, .f32⟩ : BufTy).Contents (Elt F)) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.binary_bufs_sub .., StableHlo.reshape_bufs_sub .., StableHlo.nullary_bufs_sub .., StableHlo.unary_bufs_sub .., StableHlo.binary_bufs_sub ..⟩
/-- 7 host operations of @main, window 0 (statements 1 … 60), in order. -/
abbrev main_part0_ops2 : List (HloOp τ sig (Elt F)) :=
  [ StableHlo.reshape main_v43_2 main_v44 (rfl : (.f32 : EltTy) = .f32) shapeCasts_S4096x1_S1x4096,
    StableHlo.nullary main_cst_7 (constant S_ .f32 0xFF800000#32),
    StableHlo.binary main_v43_4 main_cst_7 main_v45 ((fun x v => Host.reduce FloatOps.maximumf x v reducesTo_S16x1x1_S1x1_d0 h_S_) : (⟨S16x1x1, .f32⟩ : BufTy).Contents (Elt F) → (⟨S_, .f32⟩ : BufTy).Contents (Elt F) → (⟨S1x1, .f32⟩ : BufTy).Contents (Elt F)),
    StableHlo.nullary main_cst_8 (constant S_ .f32 0x00000000#32),
    StableHlo.binary main_v43_3 main_cst_8 main_v46 ((fun x v => Host.reduceAdd x v reducesTo_S16x1x128_S1x128_d0 h_S_) : (⟨S16x1x128, .f32⟩ : BufTy).Contents (Elt F) → (⟨S_, .f32⟩ : BufTy).Contents (Elt F) → (⟨S1x128, .f32⟩ : BufTy).Contents (Elt F)),
    StableHlo.nullary main_cst_9 (constant S_ .f32 0x39800000#32),
    StableHlo.unary main_cst_9 main_v47 (broadcastInDim S1x128 ![] bcast_S_S1x128 : (⟨S_, .f32⟩ : BufTy).Contents (Elt F) → (⟨S1x128, .f32⟩ : BufTy).Contents (Elt F)) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.reshape_bufs_sub .., StableHlo.nullary_bufs_sub .., StableHlo.binary_bufs_sub .., StableHlo.nullary_bufs_sub .., StableHlo.binary_bufs_sub .., StableHlo.nullary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    Prog.lift (.customCall (Pipeline.entry 0) ()),
    StableHlo.seq main_part0_ops1,
    Prog.lift (.customCall (Pipeline.entry 1) ()) ]
  (StableHlo.seq main_part0_ops2) : Prog (TpuEff nD τ sig (Elt F) (Pipeline.Sig Λ₀ (Fin 3) fun p => (pcfgs (F := F) p).Adm) .tc) PUnit) := by
  rewrite [StableHlo.chainK_seq_cons, Pipeline.chainK_cons, StableHlo.chainK_seq_cons, Pipeline.chainK_cons]
  chain_rfl

/-- 1 host operation of @main, window 1 (statements 61 … 64), in order. -/
abbrev main_part1_ops0 : List (HloOp τ sig (Elt F)) :=
  [ StableHlo.binary main_v46 main_v47 main_v48 (mulf : (⟨S1x128, .f32⟩ : BufTy).Contents (Elt F) → (⟨S1x128, .f32⟩ : BufTy).Contents (Elt F) → (⟨S1x128, .f32⟩ : BufTy).Contents (Elt F)) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  StableHlo.binary_bufs_sub ..
/-- 1 host operation of @main, window 1 (statements 61 … 64), in order. -/
abbrev main_part1_ops1 : List (HloOp τ sig (Elt F)) :=
  [ StableHlo.unary main_v49 main_v50 ((extractStridedSlice S4096x121 ![0, 0] · slices_S4096x128_S4096x121_0_0) : (⟨S4096x128, .f32⟩ : BufTy).Contents (Elt F) → (⟨S4096x121, .f32⟩ : BufTy).Contents (Elt F)) ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  StableHlo.unary_bufs_sub ..
/-- The last window of `main` (`main_part1`, statements 61 … 64) is the chain of ITS items, each item aligned with the window's
    statements, then `chain_rfl`. -/
theorem main_part1_chain (c : Dev nD) : main_part1 (F := F) c = (Pipeline.chain
  [ StableHlo.seq main_part1_ops0,
    Prog.lift (.customCall (Pipeline.entry 2) ()),
    StableHlo.seq main_part1_ops1 ] : Prog (TpuEff nD τ sig (Elt F) (Pipeline.Sig Λ₀ (Fin 3) fun p => (pcfgs (F := F) p).Adm) .tc) PUnit) := by
  rewrite [StableHlo.chain_seq_cons, Pipeline.chain_cons, StableHlo.chain_seq_cons]
  chain_rfl

/-- `main` is the chain of the items of its two printed halves. -/
theorem main_chain_windows (c : Dev nD) : main (F := F) c = (Pipeline.chain
  [ StableHlo.seq main_part0_ops0,
    Prog.lift (.customCall (Pipeline.entry 0) ()),
    StableHlo.seq main_part0_ops1,
    Prog.lift (.customCall (Pipeline.entry 1) ()),
    StableHlo.seq main_part0_ops2,
    StableHlo.seq main_part1_ops0,
    Prog.lift (.customCall (Pipeline.entry 2) ()),
    StableHlo.seq main_part1_ops1 ] : Prog (TpuEff nD τ sig (Elt F) (Pipeline.Sig Λ₀ (Fin 3) fun p => (pcfgs (F := F) p).Adm) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (Pipeline.Sig Λ₀ (Fin 3) fun p => (pcfgs (F := F) p).Adm)) :=
  [ .ops [main_part0_ops0],
    .prog (Prog.lift (.customCall (Pipeline.entry 0) ())),
    .ops [main_part0_ops1],
    .prog (Prog.lift (.customCall (Pipeline.entry 1) ())),
    .ops [main_part0_ops2, main_part1_ops0],
    .prog (Prog.lift (.customCall (Pipeline.entry 2) ())),
    .ops [main_part1_ops1] ]

/-- The items of the two halves are `main_groups` with each stretch cut into its pieces. -/
theorem main_chain_cut (c : Dev nD) : (Pipeline.chain
  [ StableHlo.seq main_part0_ops0,
    Prog.lift (.customCall (Pipeline.entry 0) ()),
    StableHlo.seq main_part0_ops1,
    Prog.lift (.customCall (Pipeline.entry 1) ()),
    StableHlo.seq main_part0_ops2,
    StableHlo.seq main_part1_ops0,
    Prog.lift (.customCall (Pipeline.entry 2) ()),
    StableHlo.seq main_part1_ops1 ] : Prog (TpuEff nD τ sig (Elt F) (Pipeline.Sig Λ₀ (Fin 3) fun p => (pcfgs (F := F) p).Adm) .tc) PUnit) = Pipeline.chain ((main_groups (F := F) c).flatMap StableHlo.Group.cut) := by
  chain_rfl

/-- The pieces of each stretch, joined, are the four stretches of `main`. -/
theorem main_chain_whole (c : Dev nD) : Pipeline.chain ((main_groups (F := F) c).map StableHlo.Group.whole) = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3 ] : Prog (TpuEff nD τ sig (Elt F) (Pipeline.Sig Λ₀ (Fin 3) fun p => (pcfgs (F := F) p).Adm) .tc) PUnit) := by
  chain_rfl

/-- `main` is the chain of its items: four stretches of host operations and, between them, the three kernel
    calls, in order. -/
theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3 ] : Prog (TpuEff nD τ sig (Elt F) (Pipeline.Sig Λ₀ (Fin 3) fun p => (pcfgs (F := F) p).Adm) .tc) PUnit) :=
  (main_chain_windows (F := F) c).trans <| (main_chain_cut (F := F) c).trans <|
    (StableHlo.chain_cut_eq_whole (main_groups (F := F) c)).trans (main_chain_whole (F := F) c)

end Cert.KernelIdeal.Gen

end
-- ==== Proof.KernelIdealFrame.lean ====
/- The run of `KernelIdeal`. Per kernel call: what its body leaves in each output block as a function of the input blocks, and
   the contents of its arrays after the call. Then the buffer contents at every boundary between host stretches and
   kernel calls (`W0` … `W7`), and the whole run over them. -/
module

public import proofs.«01_k».proof.Proof.KernelIdealLaunch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # REGION 0 of @main: custom_call 0, `cc0__proj1_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x512 := Rect.unit (s := S256x512) ![0, 0] S256x512.size inb_S256x512_S256x512_0_0
abbrev r0_1 : Rect S4x512x64 := Rect.unit (s := S4x512x64) ![0, 0, 0] S1x512x64.size inb_S4x512x64_S1x512x64_0_0_0
abbrev r0_2 : Rect S4x256x64 := Rect.unit (s := S4x256x64) ![0, 0, 0] S1x256x64.size inb_S4x256x64_S1x256x64_0_0_0
abbrev r0_3 : Rect S4x64x1 := Rect.unit (s := S4x64x1) ![0, 0, 0] S1x64x1.size inb_S4x64x1_S1x64x1_0_0_0
abbrev r0_4 : Rect S4x512x64 := Rect.unit (s := S4x512x64) ![1, 0, 0] S1x512x64.size inb_S4x512x64_S1x512x64_1_0_0
abbrev r0_5 : Rect S4x256x64 := Rect.unit (s := S4x256x64) ![1, 0, 0] S1x256x64.size inb_S4x256x64_S1x256x64_1_0_0
abbrev r0_6 : Rect S4x64x1 := Rect.unit (s := S4x64x1) ![1, 0, 0] S1x64x1.size inb_S4x64x1_S1x64x1_1_0_0
abbrev r0_7 : Rect S4x512x64 := Rect.unit (s := S4x512x64) ![2, 0, 0] S1x512x64.size inb_S4x512x64_S1x512x64_2_0_0
abbrev r0_8 : Rect S4x256x64 := Rect.unit (s := S4x256x64) ![2, 0, 0] S1x256x64.size inb_S4x256x64_S1x256x64_2_0_0
abbrev r0_9 : Rect S4x64x1 := Rect.unit (s := S4x64x1) ![2, 0, 0] S1x64x1.size inb_S4x64x1_S1x64x1_2_0_0
abbrev r0_10 : Rect S4x512x64 := Rect.unit (s := S4x512x64) ![3, 0, 0] S1x512x64.size inb_S4x512x64_S1x512x64_3_0_0
abbrev r0_11 : Rect S4x256x64 := Rect.unit (s := S4x256x64) ![3, 0, 0] S1x256x64.size inb_S4x256x64_S1x256x64_3_0_0
abbrev r0_12 : Rect S4x64x1 := Rect.unit (s := S4x64x1) ![3, 0, 0] S1x64x1.size inb_S4x64x1_S1x64x1_3_0_0
abbrev r0_13 : Rect S256x4 := Rect.unit (s := S256x4) ![0, 0] S256x4.size inb_S256x4_S256x4_0_0
abbrev r0_14 : Rect S1x4x1x64 := Rect.unit (s := S1x4x1x64) ![0, 0, 0, 0] S1x4x1x64.size inb_S1x4x1x64_S1x4x1x64_0_0_0_0
abbrev r0_15 : Rect S1x1x4 := Rect.unit (s := S1x1x4) ![0, 0, 0] S1x1x4.size inb_S1x1x4_S1x1x4_0_0_0

/-! ## What the body leaves in each output window's buffer -/

/-! ### Values of the body that the stores' payloads, spelt out, would write more than once

    Each is a vector the body binds (often a part call's result), stated over the input windows' blocks and
    numbered on from the skeleton's payload functions (`k0_pay27` …, after `k0_pay26`), so that
    `out0_W` and the values after it name it instead of spelling it out; the comment after each is the printed function's
    name for the value (a count appended where that name is bound again). -/

def k0_pay27 (x0 : Vec F S256x512 .f32) (x1 : Vec F S4x512x64 .f32) (x2 : Vec F S4x64x1 .f32) (x3 : Vec F S4x64x1 .f32) : FVec F S256x64 .f32 :=
  k0_pay7 (View.ld x0 r0_0) (View.ld x1 r0_4) -- `v22`
def k0_pay28 (x0 : Vec F S256x512 .f32) (x1 : Vec F S4x512x64 .f32) (x2 : Vec F S4x64x1 .f32) (x3 : Vec F S4x64x1 .f32) : FVec F S512x64 .f32 :=
  k0_pay19 (View.ld x1 r0_10) -- `v59`

/-- Window 4's staging buffer after the body, from the input windows' blocks: its 4 stores as pieces, LAST
    FIRST (Lib/Pipeline/FrameBody.lean `View.canon`; the payloads are the skeleton's and the values stated above). -/
def out0_4 (x0 : Vec F S256x512 .f32) (x1 : Vec F S4x512x64 .f32) (x2 : Vec F S4x64x1 .f32) (x3 : Vec F S4x64x1 .f32) : Vec F S4x256x64 .bf16 :=
  View.canon [⟨r0_11, k0_pay21 (View.ld x0 r0_0) (k0_pay28 x0 x1 x2 x3)⟩,
    ⟨r0_8, k0_pay14 (View.ld x0 r0_0) (View.ld x1 r0_7)⟩,
    ⟨r0_5, k0_pay8 (View.ld x0 r0_0) (View.ld x1 r0_4)⟩,
    ⟨r0_2, k0_pay2 (View.ld x0 r0_0) (View.ld x1 r0_1)⟩]

/-- Its stores tile the buffer (checked by evaluation), so they cover it. -/
theorem cover0_4 (p0 : Vec F S1x256x64 .bf16) (p1 : Vec F S1x256x64 .bf16) (p2 : Vec F S1x256x64 .bf16) (p3 : Vec F S1x256x64 .bf16) (y : S4x256x64.Idx) :
    ∃ pc ∈ ([⟨r0_11, p0⟩, ⟨r0_8, p1⟩, ⟨r0_5, p2⟩, ⟨r0_2, p3⟩] : List (View.Piece (Elt F) S4x256x64 .bf16)), y ∈ pc.1.set :=
  View.cover_of_tiled [⟨r0_11, p0⟩, ⟨r0_8, p1⟩, ⟨r0_5, p2⟩, ⟨r0_2, p3⟩] S1x256x64.size (by rfl) y

/-- Window 5's staging buffer after the body, from the input windows' blocks: its 1 store as pieces, LAST
    FIRST (Lib/Pipeline/FrameBody.lean `View.canon`; the payloads are the skeleton's and the values stated above). -/
def out0_5 (x0 : Vec F S256x512 .f32) (x1 : Vec F S4x512x64 .f32) (x2 : Vec F S4x64x1 .f32) (x3 : Vec F S4x64x1 .f32) : Vec F S256x4 .f32 :=
  View.canon [⟨r0_13, k0_pay23 (View.ld x0 r0_0) (k0_pay3 (View.ld x0 r0_0) (View.ld x1 r0_1) (View.ld x2 r0_3)) (k0_pay9 (k0_pay27 x0 x1 x2 x3) (View.ld x2 r0_6)) (k0_pay15 (View.ld x0 r0_0) (View.ld x1 r0_7) (View.ld x2 r0_9)) (k0_pay28 x0 x1 x2 x3) (View.ld x2 r0_12)⟩]

/-- Its stores tile the buffer (checked by evaluation), so they cover it. -/
theorem cover0_5 (p0 : Vec F S256x4 .f32) (y : S256x4.Idx) :
    ∃ pc ∈ ([⟨r0_13, p0⟩] : List (View.Piece (Elt F) S256x4 .f32)), y ∈ pc.1.set :=
  View.cover_of_tiled [⟨r0_13, p0⟩] S256x4.size (by rfl) y

/-- Window 6's staging buffer after the body, from the input windows' blocks: its 1 store as pieces, LAST
    FIRST (Lib/Pipeline/FrameBody.lean `View.canon`; the payloads are the skeleton's and the values stated above). -/
def out0_6 (x0 : Vec F S256x512 .f32) (x1 : Vec F S4x512x64 .f32) (x2 : Vec F S4x64x1 .f32) (x3 : Vec F S4x64x1 .f32) : Vec F S256x4 .f32 :=
  View.canon [⟨r0_13, k0_pay24 (View.ld x0 r0_0) (k0_pay4 (View.ld x0 r0_0) (View.ld x1 r0_1) (View.ld x3 r0_3)) (k0_pay10 (k0_pay27 x0 x1 x2 x3) (View.ld x3 r0_6)) (k0_pay16 (View.ld x0 r0_0) (View.ld x1 r0_7) (View.ld x3 r0_9)) (k0_pay28 x0 x1 x2 x3) (View.ld x3 r0_12)⟩]

/-- Its stores tile the buffer (checked by evaluation), so they cover it. -/
theorem cover0_6 (p0 : Vec F S256x4 .f32) (y : S256x4.Idx) :
    ∃ pc ∈ ([⟨r0_13, p0⟩] : List (View.Piece (Elt F) S256x4 .f32)), y ∈ pc.1.set :=
  View.cover_of_tiled [⟨r0_13, p0⟩] S256x4.size (by rfl) y

/-- Window 7's staging buffer after the body, from the input windows' blocks: its 1 store as pieces, LAST
    FIRST (Lib/Pipeline/FrameBody.lean `View.canon`; the payloads are the skeleton's and the values stated above). -/
def out0_7 (x0 : Vec F S256x512 .f32) (x1 : Vec F S4x512x64 .f32) (x2 : Vec F S4x64x1 .f32) (x3 : Vec F S4x64x1 .f32) : Vec F S1x4x1x64 .f32 :=
  View.canon [⟨r0_14, k0_pay25 (View.ld x0 r0_0) (k0_pay5 (View.ld x0 r0_0) (View.ld x1 r0_1)) (k0_pay11 (k0_pay27 x0 x1 x2 x3)) (k0_pay17 (View.ld x0 r0_0) (View.ld x1 r0_7)) (k0_pay28 x0 x1 x2 x3)⟩]

/-- Its stores tile the buffer (checked by evaluation), so they cover it. -/
theorem cover0_7 (p0 : Vec F S1x4x1x64 .f32) (y : S1x4x1x64.Idx) :
    ∃ pc ∈ ([⟨r0_14, p0⟩] : List (View.Piece (Elt F) S1x4x1x64 .f32)), y ∈ pc.1.set :=
  View.cover_of_tiled [⟨r0_14, p0⟩] S1x4x1x64.size (by rfl) y

/-- Window 8's staging buffer after the body, from the input windows' blocks: its 1 store as pieces, LAST
    FIRST (Lib/Pipeline/FrameBody.lean `View.canon`; the payloads are the skeleton's and the values stated above). -/
def out0_8 (x0 : Vec F S256x512 .f32) (x1 : Vec F S4x512x64 .f32) (x2 : Vec F S4x64x1 .f32) (x3 : Vec F S4x64x1 .f32) : Vec F S1x1x4 .f32 :=
  View.canon [⟨r0_15, k0_pay26 (View.ld x0 r0_0) (k0_pay6 (View.ld x0 r0_0) (View.ld x1 r0_1) (View.ld x3 r0_3)) (k0_pay12 (k0_pay27 x0 x1 x2 x3) (View.ld x3 r0_6)) (k0_pay18 (View.ld x0 r0_0) (View.ld x1 r0_7) (View.ld x3 r0_9)) (k0_pay28 x0 x1 x2 x3) (View.ld x3 r0_12)⟩]

/-- Its stores tile the buffer (checked by evaluation), so they cover it. -/
theorem cover0_8 (p0 : Vec F S1x1x4 .f32) (y : S1x1x4.Idx) :
    ∃ pc ∈ ([⟨r0_15, p0⟩] : List (View.Piece (Elt F) S1x1x4 .f32)), y ∈ pc.1.set :=
  View.cover_of_tiled [⟨r0_15, p0⟩] S1x1x4.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x512 .f32) (harg1 : arg1.IsWhole) (arg2 : Memref sig .tc .vmem S4x512x64 .f32) (harg2 : arg2.IsWhole) (arg3 : Memref sig .tc .vmem S4x64x1 .f32) (harg3 : arg3.IsWhole) (arg4 : Memref sig .tc .vmem S4x64x1 .f32) (harg4 : arg4.IsWhole) (arg5 : Memref sig .tc .vmem S4x256x64 .bf16) (harg5 : arg5.IsWhole) (arg6 : Memref sig .tc .vmem S256x4 .f32) (harg6 : arg6.IsWhole) (arg7 : Memref sig .tc .vmem S256x4 .f32) (harg7 : arg7.IsWhole) (arg8 : Memref sig .tc .vmem S1x4x1x64 .f32) (harg8 : arg8.IsWhole) (arg9 : Memref sig .tc .vmem S1x1x4 .f32) (harg9 : arg9.IsWhole)
    (x0 : Vec F S256x512 .f32) (x1 : Vec F S4x512x64 .f32) (x2 : Vec F S4x64x1 .f32) (x3 : Vec F S4x64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3) ∗ owns (c : Thread nD τ) arg8 fullShare (out0_7 x0 x1 x2 x3) ∗ owns (c : Thread nD τ) arg9 fullShare (out0_8 x0 x1 x2 x3)) -∗ K ⟨⟩))
      ⊢ wp frame (wpE (defs₀ (F := F)) Variants.none c none) E (cc0__proj1_kernel i arg1 harg1 arg2 harg2 arg3 harg3 arg4 harg4 arg5 harg5 arg6 harg6 arg7 harg7 arg8 harg8 arg9 harg9) K := by
  simp only [cc0__proj1_kernel_eq_skeleton]; unfold cc0__proj1_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  iexists _; isplitr
  swap; · iexact H8
  ipureintro
  refine (View.read_writes_eq_canon _ _ _ (cover0_8 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
    | ⟨8, _⟩ => out0_8 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]
theorem after0_8 (c : Dev nD) (t : Fin cfg0.N) : (dat0 V c).after 8 t = out0_8 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__attn1_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x4096 := Rect.unit (s := S256x4096) ![0, 0] S256x4096.size inb_S256x4096_S256x4096_0_0
abbrev r1_1 : Rect S256x4 := Rect.unit (s := S256x4) ![0, 0] S256x1.size inb_S256x4_S256x1_0_0
abbrev r1_2 : Rect S4x4096 := Rect.unit (s := S4x4096) ![0, 0] S1x4096.size inb_S4x4096_S1x4096_0_0
abbrev r1_3 : Rect S1x4 := Rect.unit (s := S1x4) ![0, 0] S1x1.size inb_S1x4_S1x1_0_0
abbrev r1_4 : Rect S4x4096x64 := Rect.unit (s := S4x4096x64) ![0, 0, 0] S1x4096x64.size inb_S4x4096x64_S1x4096x64_0_0_0
abbrev r1_5 : Rect S4x64 := Rect.unit (s := S4x64) ![0, 0] S1x64.size inb_S4x64_S1x64_0_0
abbrev r1_6 : Rect S4x64x128 := Rect.unit (s := S4x64x128) ![0, 0, 0] S1x64x128.size inb_S4x64x128_S1x64x128_0_0_0
abbrev r1_7 : Rect S256x4 := Rect.unit (s := S256x4) ![0, 1] S256x1.size inb_S256x4_S256x1_0_1
abbrev r1_8 : Rect S4x4096 := Rect.unit (s := S4x4096) ![1, 0] S1x4096.size inb_S4x4096_S1x4096_1_0
abbrev r1_9 : Rect S1x4 := Rect.unit (s := S1x4) ![0, 1] S1x1.size inb_S1x4_S1x1_0_1
abbrev r1_10 : Rect S4x4096x64 := Rect.unit (s := S4x4096x64) ![1, 0, 0] S1x4096x64.size inb_S4x4096x64_S1x4096x64_1_0_0
abbrev r1_11 : Rect S4x64 := Rect.unit (s := S4x64) ![1, 0] S1x64.size inb_S4x64_S1x64_1_0
abbrev r1_12 : Rect S4x64x128 := Rect.unit (s := S4x64x128) ![1, 0, 0] S1x64x128.size inb_S4x64x128_S1x64x128_1_0_0
abbrev r1_13 : Rect S256x4 := Rect.unit (s := S256x4) ![0, 2] S256x1.size inb_S256x4_S256x1_0_2
abbrev r1_14 : Rect S4x4096 := Rect.unit (s := S4x4096) ![2, 0] S1x4096.size inb_S4x4096_S1x4096_2_0
abbrev r1_15 : Rect S1x4 := Rect.unit (s := S1x4) ![0, 2] S1x1.size inb_S1x4_S1x1_0_2
abbrev r1_16 : Rect S4x4096x64 := Rect.unit (s := S4x4096x64) ![2, 0, 0] S1x4096x64.size inb_S4x4096x64_S1x4096x64_2_0_0
abbrev r1_17 : Rect S4x64 := Rect.unit (s := S4x64) ![2, 0] S1x64.size inb_S4x64_S1x64_2_0
abbrev r1_18 : Rect S4x64x128 := Rect.unit (s := S4x64x128) ![2, 0, 0] S1x64x128.size inb_S4x64x128_S1x64x128_2_0_0
abbrev r1_19 : Rect S256x4 := Rect.unit (s := S256x4) ![0, 3] S256x1.size inb_S256x4_S256x1_0_3
abbrev r1_20 : Rect S4x4096 := Rect.unit (s := S4x4096) ![3, 0] S1x4096.size inb_S4x4096_S1x4096_3_0
abbrev r1_21 : Rect S1x4 := Rect.unit (s := S1x4) ![0, 3] S1x1.size inb_S1x4_S1x1_0_3
abbrev r1_22 : Rect S4x4096x64 := Rect.unit (s := S4x4096x64) ![3, 0, 0] S1x4096x64.size inb_S4x4096x64_S1x4096x64_3_0_0
abbrev r1_23 : Rect S4x64 := Rect.unit (s := S4x64) ![3, 0] S1x64.size inb_S4x64_S1x64_3_0
abbrev r1_24 : Rect S4x64x128 := Rect.unit (s := S4x64x128) ![3, 0, 0] S1x64x128.size inb_S4x64x128_S1x64x128_3_0_0
abbrev r1_25 : Rect S256x128 := Rect.unit (s := S256x128) ![0, 0] S256x128.size inb_S256x128_S256x128_0_0
abbrev r1_26 : Rect S128x1 := Rect.unit (s := S128x1) ![0, 0] S128x1.size inb_S128x1_S128x1_0_0
abbrev r1_27 : Rect S256x1 := Rect.unit (s := S256x1) ![0, 0] S256x1.size inb_S256x1_S256x1_0_0
abbrev r1_28 : Rect S1x1x128 := Rect.unit (s := S1x1x128) ![0, 0, 0] S1x1x128.size inb_S1x1x128_S1x1x128_0_0_0
abbrev r1_29 : Rect S1x1x1 := Rect.unit (s := S1x1x1) ![0, 0, 0] S1x1x1.size inb_S1x1x1_S1x1x1_0_0_0

/-! ## What the body leaves in each output window's buffer -/

/-! ### Values of the body that the stores' payloads, spelt out, would write more than once

    Each is a vector the body binds (often a part call's result), stated over the input windows' blocks and
    numbered on from the skeleton's payload functions (`k1_pay45` …, after `k1_pay44`), so that
    `out1_W` and the values after it name it instead of spelling it out; the comment after each is the printed function's
    name for the value (a count appended where that name is bound again). -/

def k1_pay45 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S256x4096 .bf16 :=
  k1_pay4 (View.ld x0 r1_0) -- `v5`
def k1_pay46 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S256x1 .f32 :=
  k1_pay15 (View.ld x2 r1_7) -- `v78`
def k1_pay47 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S1x4096 .f32 :=
  k1_pay16 (View.ld x3 r1_8) -- `v81`
def k1_pay48 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S256x128 .f32 :=
  k1_pay32 (k1_pay23 (k1_pay14 (k1_pay45 x0 x1 x2 x3 x4 x5 x6 x7 x8) (k1_pay6 (View.ld x1 r1_4)) (k1_pay7 (View.ld x5 r1_5)) (k1_pay11 (View.ld x3 r1_2) (View.ld x4 r1_3)) (k1_pay12 (View.ld x2 r1_1) (View.ld x3 r1_2) (View.ld x4 r1_3)) (k1_pay13 (View.ld x2 r1_1) (View.ld x4 r1_3)) (View.ld x6 r1_6)) (k1_pay17 (View.ld x5 r1_11)) (k1_pay19 (k1_pay45 x0 x1 x2 x3 x4 x5 x6 x7 x8) (k1_pay46 x0 x1 x2 x3 x4 x5 x6 x7 x8) (k1_pay47 x0 x1 x2 x3 x4 x5 x6 x7 x8) (View.ld x4 r1_9)) (k1_pay20 (k1_pay45 x0 x1 x2 x3 x4 x5 x6 x7 x8) (k1_pay46 x0 x1 x2 x3 x4 x5 x6 x7 x8) (k1_pay47 x0 x1 x2 x3 x4 x5 x6 x7 x8) (View.ld x4 r1_9) (View.ld x1 r1_10)) (k1_pay21 (k1_pay45 x0 x1 x2 x3 x4 x5 x6 x7 x8) (k1_pay46 x0 x1 x2 x3 x4 x5 x6 x7 x8) (k1_pay47 x0 x1 x2 x3 x4 x5 x6 x7 x8) (View.ld x4 r1_9)) (k1_pay22 (F := F)) (View.ld x6 r1_12)) (k1_pay31 (k1_pay45 x0 x1 x2 x3 x4 x5 x6 x7 x8) (k1_pay24 (View.ld x3 r1_14)) (k1_pay25 (View.ld x4 r1_15)) (k1_pay26 (View.ld x1 r1_16)) (k1_pay27 (View.ld x5 r1_17)) (k1_pay28 (View.ld x2 r1_13) (View.ld x4 r1_15)) (k1_pay29 (View.ld x2 r1_13) (View.ld x4 r1_15)) (k1_pay30 (View.ld x2 r1_13) (View.ld x4 r1_15))) (View.ld x6 r1_18) -- `v220`
def k1_pay49 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S4096x64 .bf16 :=
  k1_pay34 (View.ld x1 r1_22) -- `v229`
def k1_pay50 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S1x64 .f32 :=
  k1_pay35 (View.ld x5 r1_23) -- `v231`
def k1_pay51 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S256x4096 .bf16 :=
  k1_pay39 (View.ld x2 r1_19) (View.ld x3 r1_20) (View.ld x4 r1_21) -- `v255`
def k1_pay52 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S256x4096 .bf16 :=
  k1_pay40 (View.ld x2 r1_19) (View.ld x4 r1_21) -- `v256`
def k1_pay53 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S256x4096 .bf16 :=
  k1_pay41 (View.ld x3 r1_20) (View.ld x4 r1_21) -- `v257`
def k1_pay54 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S256x128 .f32 :=
  k1_pay42 (k1_pay45 x0 x1 x2 x3 x4 x5 x6 x7 x8) (k1_pay48 x0 x1 x2 x3 x4 x5 x6 x7 x8) (k1_pay49 x0 x1 x2 x3 x4 x5 x6 x7 x8) (k1_pay50 x0 x1 x2 x3 x4 x5 x6 x7 x8) (k1_pay51 x0 x1 x2 x3 x4 x5 x6 x7 x8) (k1_pay52 x0 x1 x2 x3 x4 x5 x6 x7 x8) (k1_pay53 x0 x1 x2 x3 x4 x5 x6 x7 x8) (View.ld x6 r1_24) -- `v292`
def k1_pay55 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : FVec F S256x1 .f32 :=
  k1_pay44 (k1_pay45 x0 x1 x2 x3 x4 x5 x6 x7 x8) (k1_pay48 x0 x1 x2 x3 x4 x5 x6 x7 x8) (k1_pay49 x0 x1 x2 x3 x4 x5 x6 x7 x8) (k1_pay50 x0 x1 x2 x3 x4 x5 x6 x7 x8) (k1_pay51 x0 x1 x2 x3 x4 x5 x6 x7 x8) (k1_pay52 x0 x1 x2 x3 x4 x5 x6 x7 x8) (k1_pay53 x0 x1 x2 x3 x4 x5 x6 x7 x8) (View.ld x6 r1_24) (View.ld x8 r1_26) -- `v297`

/-- Window 9's staging buffer after the body, from the input windows' blocks: its 1 store as pieces, LAST
    FIRST (Lib/Pipeline/FrameBody.lean `View.canon`; the payloads are the skeleton's and the values stated above). -/
def out1_9 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : Vec F S256x128 .bf16 :=
  View.canon [⟨r1_25, k1_pay43 (k1_pay45 x0 x1 x2 x3 x4 x5 x6 x7 x8) (k1_pay48 x0 x1 x2 x3 x4 x5 x6 x7 x8) (k1_pay49 x0 x1 x2 x3 x4 x5 x6 x7 x8) (k1_pay50 x0 x1 x2 x3 x4 x5 x6 x7 x8) (k1_pay51 x0 x1 x2 x3 x4 x5 x6 x7 x8) (k1_pay52 x0 x1 x2 x3 x4 x5 x6 x7 x8) (k1_pay53 x0 x1 x2 x3 x4 x5 x6 x7 x8) (View.ld x6 r1_24)⟩]

/-- Its stores tile the buffer (checked by evaluation), so they cover it. -/
theorem cover1_9 (p0 : Vec F S256x128 .bf16) (y : S256x128.Idx) :
    ∃ pc ∈ ([⟨r1_25, p0⟩] : List (View.Piece (Elt F) S256x128 .bf16)), y ∈ pc.1.set :=
  View.cover_of_tiled [⟨r1_25, p0⟩] S256x128.size (by rfl) y

/-- Window 10's staging buffer after the body, from the input windows' blocks: its 1 store as pieces, LAST
    FIRST (Lib/Pipeline/FrameBody.lean `View.canon`; the payloads are the skeleton's and the values stated above). -/
def out1_10 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : Vec F S256x1 .f32 :=
  View.canon [⟨r1_27, k1_pay1 (k1_pay54 x0 x1 x2 x3 x4 x5 x6 x7 x8) (View.ld x7 r1_26)⟩]

/-- Its stores tile the buffer (checked by evaluation), so they cover it. -/
theorem cover1_10 (p0 : Vec F S256x1 .f32) (y : S256x1.Idx) :
    ∃ pc ∈ ([⟨r1_27, p0⟩] : List (View.Piece (Elt F) S256x1 .f32)), y ∈ pc.1.set :=
  View.cover_of_tiled [⟨r1_27, p0⟩] S256x1.size (by rfl) y

/-- Window 11's staging buffer after the body, from the input windows' blocks: its 1 store as pieces, LAST
    FIRST (Lib/Pipeline/FrameBody.lean `View.canon`; the payloads are the skeleton's and the values stated above). -/
def out1_11 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : Vec F S256x1 .f32 :=
  View.canon [⟨r1_27, k1_pay55 x0 x1 x2 x3 x4 x5 x6 x7 x8⟩]

/-- Its stores tile the buffer (checked by evaluation), so they cover it. -/
theorem cover1_11 (p0 : Vec F S256x1 .f32) (y : S256x1.Idx) :
    ∃ pc ∈ ([⟨r1_27, p0⟩] : List (View.Piece (Elt F) S256x1 .f32)), y ∈ pc.1.set :=
  View.cover_of_tiled [⟨r1_27, p0⟩] S256x1.size (by rfl) y

/-- Window 12's staging buffer after the body, from the input windows' blocks: its 1 store as pieces, LAST
    FIRST (Lib/Pipeline/FrameBody.lean `View.canon`; the payloads are the skeleton's and the values stated above). -/
def out1_12 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : Vec F S1x1x128 .f32 :=
  View.canon [⟨r1_28, k1_pay2 (k1_pay54 x0 x1 x2 x3 x4 x5 x6 x7 x8)⟩]

/-- Its stores tile the buffer (checked by evaluation), so they cover it. -/
theorem cover1_12 (p0 : Vec F S1x1x128 .f32) (y : S1x1x128.Idx) :
    ∃ pc ∈ ([⟨r1_28, p0⟩] : List (View.Piece (Elt F) S1x1x128 .f32)), y ∈ pc.1.set :=
  View.cover_of_tiled [⟨r1_28, p0⟩] S1x1x128.size (by rfl) y

/-- Window 13's staging buffer after the body, from the input windows' blocks: its 1 store as pieces, LAST
    FIRST (Lib/Pipeline/FrameBody.lean `View.canon`; the payloads are the skeleton's and the values stated above). -/
def out1_13 (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) : Vec F S1x1x1 .f32 :=
  View.canon [⟨r1_29, k1_pay3 (k1_pay55 x0 x1 x2 x3 x4 x5 x6 x7 x8)⟩]

/-- Its stores tile the buffer (checked by evaluation), so they cover it. -/
theorem cover1_13 (p0 : Vec F S1x1x1 .f32) (y : S1x1x1.Idx) :
    ∃ pc ∈ ([⟨r1_29, p0⟩] : List (View.Piece (Elt F) S1x1x1 .f32)), y ∈ pc.1.set :=
  View.cover_of_tiled [⟨r1_29, p0⟩] S1x1x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S256x4096 .i32) (harg1 : arg1.IsWhole) (arg2 : Memref sig .tc .vmem S4x4096x64 .bf16) (harg2 : arg2.IsWhole) (arg3 : Memref sig .tc .vmem S256x4 .f32) (harg3 : arg3.IsWhole) (arg4 : Memref sig .tc .vmem S4x4096 .f32) (harg4 : arg4.IsWhole) (arg5 : Memref sig .tc .vmem S1x4 .f32) (harg5 : arg5.IsWhole) (arg6 : Memref sig .tc .vmem S4x64 .f32) (harg6 : arg6.IsWhole) (arg7 : Memref sig .tc .vmem S4x64x128 .bf16) (harg7 : arg7.IsWhole) (arg8 : Memref sig .tc .vmem S128x1 .f32) (harg8 : arg8.IsWhole) (arg9 : Memref sig .tc .vmem S128x1 .f32) (harg9 : arg9.IsWhole) (arg10 : Memref sig .tc .vmem S256x128 .bf16) (harg10 : arg10.IsWhole) (arg11 : Memref sig .tc .vmem S256x1 .f32) (harg11 : arg11.IsWhole) (arg12 : Memref sig .tc .vmem S256x1 .f32) (harg12 : arg12.IsWhole) (arg13 : Memref sig .tc .vmem S1x1x128 .f32) (harg13 : arg13.IsWhole) (arg14 : Memref sig .tc .vmem S1x1x1 .f32) (harg14 : arg14.IsWhole)
    (x0 : Vec F S256x4096 .i32) (x1 : Vec F S4x4096x64 .bf16) (x2 : Vec F S256x4 .f32) (x3 : Vec F S4x4096 .f32) (x4 : Vec F S1x4 .f32) (x5 : Vec F S4x64 .f32) (x6 : Vec F S4x64x128 .bf16) (x7 : Vec F S128x1 .f32) (x8 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8) ∗ owns (c : Thread nD τ) arg11 fullShare (out1_10 x0 x1 x2 x3 x4 x5 x6 x7 x8) ∗ owns (c : Thread nD τ) arg12 fullShare (out1_11 x0 x1 x2 x3 x4 x5 x6 x7 x8) ∗ owns (c : Thread nD τ) arg13 fullShare (out1_12 x0 x1 x2 x3 x4 x5 x6 x7 x8) ∗ owns (c : Thread nD τ) arg14 fullShare (out1_13 x0 x1 x2 x3 x4 x5 x6 x7 x8)) -∗ K ⟨⟩))
      ⊢ wp frame (wpE (defs₀ (F := F)) Variants.none c none) E (cc1__attn1_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__attn1_kernel_eq_skeleton]; unfold cc1__attn1_kernel_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover1_9 _)).trans ?_
    rfl
  isplitl [H10]
  · iexists _; isplitr
    swap; · iexact H10
    ipureintro
    refine (View.read_writes_eq_canon _ _ _ (cover1_10 _)).trans ?_
    rfl
  isplitl [H11]
  · iexists _; isplitr
    swap; · iexact H11
    ipureintro
    refine (View.read_writes_eq_canon _ _ _ (cover1_11 _)).trans ?_
    rfl
  isplitl [H12]
  · iexists _; isplitr
    swap; · iexact H12
    ipureintro
    refine (View.read_writes_eq_canon _ _ _ (cover1_12 _)).trans ?_
    rfl
  iexists _; isplitr
  swap; · iexact H13
  ipureintro
  refine (View.read_writes_eq_canon _ _ _ (cover1_13 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__attn2_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x4096 := Rect.unit (s := S256x4096) ![0, 0] S256x4096.size inb_S256x4096_S256x4096_0_0
abbrev r2_1 : Rect S256x1 := Rect.unit (s := S256x1) ![0, 0] S256x1.size inb_S256x1_S256x1_0_0
abbrev r2_2 : Rect S1x4096 := Rect.unit (s := S1x4096) ![0, 0] S1x4096.size inb_S1x4096_S1x4096_0_0
abbrev r2_3 : Rect S1x1 := Rect.unit (s := S1x1) ![0, 0] S1x1.size inb_S1x1_S1x1_0_0
abbrev r2_4 : Rect S4096x128 := Rect.unit (s := S4096x128) ![0, 0] S4096x128.size inb_S4096x128_S4096x128_0_0
abbrev r2_5 : Rect S1x128 := Rect.unit (s := S1x128) ![0, 0] S1x128.size inb_S1x128_S1x128_0_0
abbrev r2_6 : Rect S256x128 := Rect.unit (s := S256x128) ![0, 0] S256x128.size inb_S256x128_S256x128_0_0

/-! ## What the body leaves in each output window's buffer -/

/-- Window 6's staging buffer after the body, from the input windows' blocks: its 1 store as pieces, LAST
    FIRST (Lib/Pipeline/FrameBody.lean `View.canon`; the payloads are the skeleton's). -/
def out2_6 (x0 : Vec F S256x4096 .i32) (x1 : Vec F S4096x128 .bf16) (x2 : Vec F S256x1 .f32) (x3 : Vec F S1x4096 .f32) (x4 : Vec F S1x1 .f32) (x5 : Vec F S1x128 .f32) : Vec F S256x128 .f32 :=
  View.canon [⟨r2_6, k2_pay1 (k2_pay2 (View.ld x0 r2_0)) (k2_pay4 (View.ld x1 r2_4)) (k2_pay5 (View.ld x5 r2_5)) (k2_pay9 (View.ld x2 r2_1) (View.ld x3 r2_2) (View.ld x4 r2_3)) (k2_pay10 (View.ld x2 r2_1) (View.ld x3 r2_2) (View.ld x4 r2_3))⟩]

/-- Its stores tile the buffer (checked by evaluation), so they cover it. -/
theorem cover2_6 (p0 : Vec F S256x128 .f32) (y : S256x128.Idx) :
    ∃ pc ∈ ([⟨r2_6, p0⟩] : List (View.Piece (Elt F) S256x128 .f32)), y ∈ pc.1.set :=
  View.cover_of_tiled [⟨r2_6, p0⟩] S256x128.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S256x4096 .i32) (harg1 : arg1.IsWhole) (arg2 : Memref sig .tc .vmem S4096x128 .bf16) (harg2 : arg2.IsWhole) (arg3 : Memref sig .tc .vmem S256x1 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x128 .f32) (harg6 : arg6.IsWhole) (arg7 : Memref sig .tc .vmem S256x128 .f32) (harg7 : arg7.IsWhole)
    (x0 : Vec F S256x4096 .i32) (x1 : Vec F S4096x128 .bf16) (x2 : Vec F S256x1 .f32) (x3 : Vec F S1x4096 .f32) (x4 : Vec F S1x1 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__attn2_kernel i arg1 harg1 arg2 harg2 arg3 harg3 arg4 harg4 arg5 harg5 arg6 harg6 arg7 harg7) K := by
  simp only [cc2__attn2_kernel_eq_skeleton]; unfold cc2__attn2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_cst, main_v23, main_v24, main_c, main_v25, main_v26, main_v27, main_cst_0, main_v28, main_v29, main_c_1, main_v30, main_v31, main_cst_2, main_v32, main_v33, main_c_3, main_v34, main_v35]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v37, main_cst_4, main_v38, main_cst_5, main_v39, main_v40, main_cst_6, main_v41, main_v42]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v44, main_cst_7, main_v45, main_cst_8, main_v46, main_cst_9, main_v47, main_v48]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v50]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)
theorem W7_main_arg11 (c : Dev nD) : W7 m ρ c (Proc.devRef .tc main_arg11) = m ((c : Thread nD τ).loc main_arg11) :=
  W7_args m ρ c main_arg11 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: from any memory with zero counters every execution ends, the result buffer holds what the last boundary's
    contents `W7` say, the argument arrays are as launched, and every semaphore counter is zero. -/
theorem run : θ_run defs (onTc (τ := τ) (main (F := F))) ⟨m, fun _ => 0, ρ⟩ (fun r => (∀ c : Dev nD,
      r.2.mem ((c.tc : Thread nD τ).loc main_v50) = W7 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v50 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩), funext fun g => hz g (.inr (no_unscoped g.2))⟩)

/-- The frame: every execution ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => (h.1 c).2, h.2⟩) (run m ρ)

end Cert.KernelIdeal.Gen

end
-- ==== Proof.RefFrame.lean ====
/- The run of the reference program: its result buffer at `val_main_v174` of the arguments, the arguments unchanged, the
   counters zero. -/
module

public import proofs.«01_k».proof.Proof.Gen.ReferenceIdeal.Run
public import proofs.«01_k».proof.Proof.Gen.ReferenceIdeal.Read
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen

variable (m : (ℓ : Loc nD τ sig) → Buf (Elt Ideal) ℓ) (ρ : Dev nD → PrngReg)

/-- The reference's result, of the arguments in memory. -/
def result (c : Dev nD) : FVec Ideal S4096x121 .f32 :=
  Read.val_main_v174 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

/-- From any memory with zero counters every execution of the reference ends with its result at `result`, its arguments
    as launched, and every counter at zero (it declares no semaphore). -/
theorem run : θ_run (defs (F := Ideal)) (onTc (τ := τ) (main (F := Ideal))) ⟨m, fun _ => 0, ρ⟩ (fun r => (∀ c : Dev nD,
      r.2.mem ((c.tc : Thread nD τ).loc main_v174) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h c).1.trans (Read.val_main_v174_eq (StableHlo.launchContents m c)), (h c).2⟩,
    sem_eq_zero_of_no_sems (by decide) r.2⟩) (Value.run (F := Ideal) m ρ)

end Cert.ReferenceIdeal.Layer

end
-- ==== Proof.GatMath.lean ====
/- The mathematics of one row of a graph-attention layer, over the reals. `gatRow` is the row: the neighbours' features
   weighted by the softmax of the leaky scores, or the mean of all features where the row has no neighbour. Two ways of
   computing it are shown equal to it: the kernel's (`sepRow`: every weight as a maximum of two separable products, the
   row's sums taken first and divided last) and the reference's (`softRow`: a masked softmax, then a contraction). -/
module

public import Idealize.ShloMosaic.Lib.Pointwise

@[expose] public section

noncomputable section

open Idealize.ShloMosaic Idealize.ShloMosaic.TcCoe Idealize.SL.Sem

namespace Cert.Gat

/-! ## The row over the reals -/

/-- The slope of the leaky rectifier: the real number the single-precision 0.2 is. -/
def slope : ℝ := 13421773 / 67108864

/-- The leaky rectifier. -/
def leaky (z : ℝ) : ℝ := max z (slope * z)

/-- An adjacency word says "neighbour": it is positive as a signed number. -/
def on (b : BitVec 32) : Bool := (0#32).slt b

/-- One for a neighbour, zero otherwise. -/
def ind (b : BitVec 32) : ℝ := if on b then 1 else 0

/-- The unnormalised attention weight of one pair of nodes. -/
def wt (el er : ℝ) (b : BitVec 32) : ℝ := Real.exp (leaky (el + er)) * ind b

/-- One row of the layer at one feature: the neighbours' features `w` weighted by the softmax of the leaky scores, or
    `cm` where there is no neighbour. -/
def gatRow {J : Type} [Fintype J] (b : J → BitVec 32) (el : ℝ) (er w : J → ℝ) (cm : ℝ) : ℝ :=
  if ∃ j, on (b j) = true then (∑ j, wt el (er j) (b j) * w j) / (∑ j, wt el (er j) (b j)) else cm

/-- The exponential linear unit. -/
def elu (z : ℝ) : ℝ := if 0 < z then z else Real.exp z - 1

/-! ## Small facts -/

/-- The printed slope is that real number. -/
theorem slope_eq : Ideal.ofBits .f32 1045220557#32 = ((slope : ℝ) : EReal) := by
  simp [Ideal.ofBits, Ideal.ieee, slope]
  rw [← EReal.coe_mul]
  norm_num

/-- The printed 1/4096 is that real number. -/
theorem inv_eq : Ideal.ofBits .f32 964689920#32 = ((1 / 4096 : ℝ) : EReal) := by
  simp [Ideal.ofBits, Ideal.ieee]
  try rw [← EReal.coe_mul]
  norm_num

theorem slope_pos : 0 < slope := by unfold slope; norm_num
theorem slope_le_one : slope ≤ 1 := by unfold slope; norm_num

/-- A sum of reals, each taken as an extended real, is the sum taken as one. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals taken as extended reals. -/
theorem coe_max (a b : ℝ) : max (a : EReal) (b : EReal) = ((max a b : ℝ) : EReal) :=
  (EReal.coe_strictMono.monotone.map_max).symm

/-- A maximum over finitely many extended reals, none `⊤` and one of them a real, is a real. -/
theorem exists_fold_max {ι : Type} (s : Finset ι) (f : ι → EReal) (ht : ∀ i ∈ s, f i ≠ ⊤) (hb : ∃ i ∈ s, f i ≠ ⊥) :
    ∃ r : ℝ, s.fold max ⊥ f = (r : EReal) := by
  classical
  have h1 : s.fold max ⊥ f ≠ ⊤ := by
    clear hb
    induction s using Finset.induction_on with
    | empty => simp
    | insert a s ha ih =>
      rw [Finset.fold_insert ha]
      have := ht a (Finset.mem_insert_self _ _)
      have := ih fun i hi => ht i (Finset.mem_insert_of_mem hi)
      rcases max_choice (f a) (s.fold max ⊥ f) with h | h <;> rw [h] <;> assumption
  have h2 : s.fold max ⊥ f ≠ ⊥ := by
    obtain ⟨i, hi, hne⟩ := hb
    have : f i ≤ s.fold max ⊥ f := (Finset.le_fold_max _).2 (.inr ⟨i, hi, le_rfl⟩)
    intro h
    rw [h] at this
    exact hne (le_bot_iff.1 this)
  exact ⟨(s.fold max ⊥ f).toReal, (EReal.coe_toReal h1 h2).symm⟩

/-- A maximum over finitely many reals, not none, is a real. -/
theorem exists_fold_max_coe {ι : Type} [Fintype ι] [Nonempty ι] (f : ι → ℝ) :
    ∃ r : ℝ, Finset.univ.fold max ⊥ (fun i => (f i : EReal)) = (r : EReal) :=
  exists_fold_max _ _ (fun _ _ => EReal.coe_ne_top _) ⟨Classical.arbitrary ι, Finset.mem_univ _, EReal.coe_ne_bot _⟩

/-- Dividing a real by a real that is not zero. -/
theorem div_real (a b : ℝ) (h : b ≠ 0) : Ideal.div (a : EReal) (b : EReal) = ((a / b : ℝ) : EReal) := by
  rw [Ideal.div_coe h, ← EReal.coe_mul, mul_one_div]

theorem ind_nonneg (b : BitVec 32) : 0 ≤ ind b := by unfold ind; split <;> norm_num
theorem wt_nonneg (el er : ℝ) (b : BitVec 32) : 0 ≤ wt el er b := mul_nonneg (Real.exp_pos _).le (ind_nonneg b)
theorem wt_pos (el er : ℝ) (b : BitVec 32) (h : on b = true) : 0 < wt el er b := by
  unfold wt ind; rw [if_pos h, mul_one]; exact Real.exp_pos _
theorem wt_off (el er : ℝ) (b : BitVec 32) (h : ¬ on b = true) : wt el er b = 0 := by
  unfold wt ind; rw [if_neg h, mul_zero]

variable {J : Type} [Fintype J]

/-- A row with a neighbour has a positive total weight. -/
theorem sum_wt_pos (b : J → BitVec 32) (el : ℝ) (er : J → ℝ) (h : ∃ j, on (b j) = true) : 0 < ∑ j, wt el (er j) (b j) := by
  obtain ⟨j, hj⟩ := h
  exact lt_of_lt_of_le (wt_pos _ _ _ hj)
    (Finset.single_le_sum (f := fun j => wt el (er j) (b j)) (fun i _ => wt_nonneg _ _ _) (Finset.mem_univ j))

/-- The adjacency word as the programs read it: the comparison with zero, as a number. -/
theorem edge_eq (b : BitVec 32) :
    (FloatOps.sitofp (F := Ideal) FTy.f32 (BitVec.setWidth 32 (IntOp.cmpi .sgt b 0#32)) : EReal) = ((ind b : ℝ) : EReal) := by
  unfold ind on
  show (((BitVec.setWidth 32 (BitVec.ofBool ((0#32).slt b))).toInt : ℝ) : EReal) = _
  cases (0#32).slt b <;> simp

/-! ## The kernel's way -/

/-- The kernel's weight of one pair: a maximum of two products of a row factor and a column factor, times the edge. -/
def sepWeight (el M er : EReal) (b : BitVec 32) : EReal :=
  max
    (Ideal.exp (el + M - max (el + M) (Ideal.ofBits .f32 1045220557#32 * (el + M))) * Ideal.exp (er - M))
    (Ideal.exp (Ideal.ofBits .f32 1045220557#32 * (el + M) - max (el + M) (Ideal.ofBits .f32 1045220557#32 * (el + M)))
      * Ideal.exp (Ideal.ofBits .f32 1045220557#32 * (er - M)))
    * FloatOps.sitofp (F := Ideal) FTy.f32 (BitVec.setWidth 32 (IntOp.cmpi .sgt b 0#32))

/-- The kernel's row: the weighted sum of the features times the reciprocal of the total weight, or the column mean. -/
def sepRow (el M : EReal) (er w : J → EReal) (b : J → BitVec 32) (cm : EReal) : EReal :=
  (∑ j, sepWeight el M (er j) (b j) * w j)
      * (if 0 < ∑ j, sepWeight el M (er j) (b j) then Ideal.div 1 (∑ j, sepWeight el M (er j) (b j)) else 0)
    + (if 0 < ∑ j, sepWeight el M (er j) (b j) then 0 else 1) * cm

/-- At reals, the kernel's weight is the attention weight times a factor of the row alone. -/
theorem sepWeight_coe (el M er : ℝ) (b : BitVec 32) :
    sepWeight el M er b = ((Real.exp (-(leaky (el + M))) * wt el er b : ℝ) : EReal) := by
  unfold sepWeight
  rw [edge_eq, slope_eq]
  simp only [← EReal.coe_add, ← EReal.coe_mul, coe_max, ← EReal.coe_sub, Ideal.exp_coe]
  congr 1
  unfold wt
  rw [← mul_assoc]
  congr 1
  have hm : max (el + M) (slope * (el + M)) = leaky (el + M) := rfl
  rw [hm, ← Real.exp_add, ← Real.exp_add, ← Real.exp_add, ← Real.exp_strictMono.monotone.map_max]
  congr 1
  unfold leaky
  rw [← max_add_add_left]
  congr 1 <;> ring

/-- At reals, the kernel's row is the layer's row, whatever real `M` it was shifted by. -/
theorem sepRow_coe (el M : ℝ) (er w : J → ℝ) (b : J → BitVec 32) (cm : ℝ) :
    sepRow (el : EReal) M (fun j => (er j : EReal)) (fun j => (w j : EReal)) b cm = ((gatRow b el er w cm : ℝ) : EReal) := by
  unfold sepRow gatRow
  simp only [sepWeight_coe, ← EReal.coe_mul, ← coe_sum]
  have hS : ∑ j, Real.exp (-(leaky (el + M))) * wt el (er j) (b j) = Real.exp (-(leaky (el + M))) * ∑ j, wt el (er j) (b j) :=
    (Finset.mul_sum _ _ _).symm
  have hN : ∑ j, Real.exp (-(leaky (el + M))) * wt el (er j) (b j) * w j
      = Real.exp (-(leaky (el + M))) * ∑ j, wt el (er j) (b j) * w j := by
    rw [Finset.mul_sum]; exact Finset.sum_congr rfl fun j _ => mul_assoc _ _ _
  rw [hS, hN]
  have he := Real.exp_pos (-(leaky (el + M)))
  by_cases h : ∃ j, on (b j) = true
  · have hp := sum_wt_pos b el er h
    have hq : 0 < Real.exp (-(leaky (el + M))) * ∑ j, wt el (er j) (b j) := mul_pos he hp
    rw [if_pos h, if_pos (EReal.coe_pos.2 hq), if_pos (EReal.coe_pos.2 hq), zero_mul, add_zero,
      ← EReal.coe_one, div_real _ _ hq.ne', ← EReal.coe_mul]
    congr 1
    field_simp
  · have hz : ∑ j, wt el (er j) (b j) = 0 := Finset.sum_eq_zero fun j _ => wt_off _ _ _ fun hj => h ⟨j, hj⟩
    rw [if_neg h, hz, mul_zero, EReal.coe_zero, if_neg (lt_irrefl _), if_neg (lt_irrefl _), mul_zero, zero_add, one_mul]

/-! ## The reference's way -/

/-- The masked score of one pair. -/
def score (el er : ℝ) (b : BitVec 32) : EReal := if on b then ((leaky (el + er) : ℝ) : EReal) else ⊥

/-- The reference's leaky rectifier, a choice by sign, is `leaky`. -/
theorem leaky_eq (z : ℝ) : (if 0 < z then z else slope * z) = leaky z := by
  unfold leaky
  have h1 := slope_pos
  have h2 := slope_le_one
  split
  · rw [max_eq_left]; nlinarith
  · rw [max_eq_right]; nlinarith

/-- The softmax of the masked scores, whatever real it was shifted by, contracted with the features is the row. -/
theorem soft_coe (b : J → BitVec 32) (el : ℝ) (er w : J → ℝ) (h : ∃ j, on (b j) = true) (M : ℝ) :
    ∑ j, Ideal.div (Ideal.exp (score el (er j) (b j) - (M : EReal))) (∑ k, Ideal.exp (score el (er k) (b k) - (M : EReal))) * (w j : EReal)
      = (((∑ j, wt el (er j) (b j) * w j) / (∑ j, wt el (er j) (b j)) : ℝ) : EReal) := by
  have he : ∀ j, Ideal.exp (score el (er j) (b j) - (M : EReal)) = ((Real.exp (-M) * wt el (er j) (b j) : ℝ) : EReal) := by
    intro j
    unfold score wt ind
    by_cases hj : on (b j) = true
    · rw [if_pos hj, if_pos hj, ← EReal.coe_sub, Ideal.exp_coe, mul_one, ← Real.exp_add]
      congr 2; ring
    · rw [if_neg hj, if_neg hj, mul_zero, mul_zero, sub_eq_add_neg, EReal.bot_add]; rfl
  have hp := sum_wt_pos b el er h
  have hM := Real.exp_pos (-M)
  have hS : ∑ j, Real.exp (-M) * wt el (er j) (b j) = Real.exp (-M) * ∑ j, wt el (er j) (b j) := (Finset.mul_sum _ _ _).symm
  simp only [he, ← coe_sum, hS, div_real _ _ (mul_pos hM hp).ne', ← EReal.coe_mul]
  congr 1
  rw [Finset.sum_div]
  refine Finset.sum_congr rfl fun j _ => ?_
  field_simp

/-- The masked scores of a row with a neighbour have a real maximum. -/
theorem score_max (b : J → BitVec 32) (el : ℝ) (er : J → ℝ) (h : ∃ j, on (b j) = true) :
    ∃ M : ℝ, Finset.univ.fold max ⊥ (fun j => score el (er j) (b j)) = (M : EReal) := by
  obtain ⟨j, hj⟩ := h
  refine exists_fold_max _ _ (fun i _ => ?_) ⟨j, Finset.mem_univ _, ?_⟩
  · unfold score; split
    · exact EReal.coe_ne_top _
    · exact bot_ne_top
  · unfold score; rw [if_pos hj]; exact EReal.coe_ne_bot _

/-- The kernel's exponential linear unit at a real. -/
theorem elu_coe (z : ℝ) : (if (0 : EReal) < (z : EReal) then (z : EReal) else Ideal.exp (z : EReal) - 1) = ((elu z : ℝ) : EReal) := by
  unfold elu
  by_cases h : 0 < z
  · rw [if_pos h, if_pos (EReal.coe_pos.2 h)]
  · rw [if_neg h, if_neg (fun hh => h (EReal.coe_pos.1 hh)), Ideal.exp_coe, ← EReal.coe_one, ← EReal.coe_sub]

end Cert.Gat

end
-- ==== Proof.GatSpec.lean ====
/- The two-layer graph-attention network over the reals: four heads, an exponential linear unit, and an output layer.
   Also the small rearrangements of sums that the kernel's blocks and paddings ask for. -/
module

public import proofs.«01_k».proof.Proof.GatMath

@[expose] public section

noncomputable section

open Idealize.ShloMosaic Idealize.ShloMosaic.TcCoe Idealize.SL.Sem

namespace Cert.Gat

/-- The network's inputs: features, adjacency words, and per head the weights and score vectors; the output layer's
    weights and score vector. -/
structure Inp where
  x : Fin 4096 → Fin 512 → ℝ
  b : Fin 4096 → Fin 4096 → BitVec 32
  W : Fin 4 → Fin 512 → Fin 64 → ℝ
  a : Fin 4 → Fin 128 → ℝ
  Wo : Fin 256 → Fin 121 → ℝ
  ao : Fin 242 → ℝ

variable (I : Inp)

/-- Head `h`'s features. -/
def wh (h : Fin 4) (i : Fin 4096) (f : Fin 64) : ℝ := ∑ k, I.x i k * I.W h k f
/-- Head `h`'s left scores. -/
def sl (h : Fin 4) (i : Fin 4096) : ℝ := ∑ f : Fin 64, wh I h i f * I.a h ⟨f.val, by omega⟩
/-- Head `h`'s right scores. -/
def sr (h : Fin 4) (i : Fin 4096) : ℝ := ∑ f : Fin 64, wh I h i f * I.a h ⟨64 + f.val, by omega⟩
/-- Head `h`'s output, after the exponential linear unit. -/
def hid (h : Fin 4) (i : Fin 4096) (f : Fin 64) : ℝ :=
  elu (gatRow (I.b i) (sl I h i) (fun j => sr I h j) (fun j => wh I h j f) ((∑ j, wh I h j f) * (1 / 4096)))
/-- The output layer's features. -/
def who (i : Fin 4096) (o : Fin 121) : ℝ := ∑ h : Fin 4, ∑ f : Fin 64, hid I h i f * I.Wo ⟨h.val * 64 + f.val, by omega⟩ o
/-- The output layer's left scores. -/
def ol (i : Fin 4096) : ℝ := ∑ o : Fin 121, who I i o * I.ao ⟨o.val, by omega⟩
/-- The output layer's right scores. -/
def orr (i : Fin 4096) : ℝ := ∑ o : Fin 121, who I i o * I.ao ⟨121 + o.val, by omega⟩
/-- The network's result. -/
def out (i : Fin 4096) (o : Fin 121) : ℝ :=
  gatRow (I.b i) (ol I i) (fun j => orr I j) (fun j => who I j o) ((∑ j, who I j o) * (1 / 4096))

/-! ## Sums over blocks and over padded columns -/

/-- A sum over all rows, block by block. -/
theorem sum_blocks (g : Fin 4096 → ℝ) (e : Fin 16 → Fin 256 → Fin 4096) (he : ∀ t r, (e t r).val = t.val * 256 + r.val) :
    ∑ t : Fin 16, ∑ r : Fin 256, g (e t r) = ∑ i, g i := by
  rw [← Fintype.sum_prod_type' (f := fun t r => g (e t r))]
  refine Fintype.sum_equiv (finProdFinEquiv (m := 16) (n := 256)) _ (fun i : Fin (16 * 256) => g i) fun p => ?_
  congr 1
  apply Fin.ext
  rw [he, finProdFinEquiv_apply_val]
  omega

/-- A function of 121 columns, zero on the columns up to 128. -/
def pad (g : Fin 121 → ℝ) (l : Fin 128) : ℝ := if h : l.val < 121 then g ⟨l.val, h⟩ else 0

/-- Padding with zeros keeps a sum of products. -/
theorem sum_pad (g k : Fin 121 → ℝ) : ∑ l, pad g l * pad k l = ∑ o, g o * k o := by
  have h := Fin.sum_univ_add (a := 121) (b := 7) (fun l : Fin (121 + 7) => pad g l * pad k l)
  refine h.trans ?_
  have h2 : ∑ i : Fin 7, pad g (Fin.natAdd 121 i) * pad k (Fin.natAdd 121 i) = 0 := by
    refine Finset.sum_eq_zero fun i _ => ?_
    unfold pad
    rw [dif_neg (by simp), zero_mul]
  rw [h2, add_zero]
  refine Finset.sum_congr rfl fun i _ => ?_
  unfold pad
  have hi : (Fin.castAdd 7 i).val < 121 := i.isLt
  rw [dif_pos hi, dif_pos hi]
  rfl

/-- A largest value taken block by block is a real. -/
theorem exists_max_blocks (g : Fin 16 → Fin 256 → ℝ) :
    ∃ M : ℝ, Finset.univ.fold max ⊥ (fun t => Finset.univ.fold max ⊥ (fun r => ((g t r : ℝ) : EReal))) = (M : EReal) := by
  have h := fun t => exists_fold_max_coe (fun r => g t r)
  choose q hq using h
  simp only [hq]
  exact exists_fold_max_coe q

/-- `sepRow` of equal arguments. -/
theorem sepRow_congr {J : Type} [Fintype J] {el el' M M' cm cm' : EReal} {er er' w w' : J → EReal} {b b' : J → BitVec 32} (h1 : el = el') (h2 : M = M')
    (h3 : ∀ j, er j = er' j) (h4 : ∀ j, w j = w' j) (h5 : ∀ j, b j = b' j) (h6 : cm = cm') : sepRow el M er w b cm = sepRow el' M' er' w' b' cm' := by
  obtain rfl := funext h3
  obtain rfl := funext h4
  obtain rfl := funext h5
  rw [h1, h2, h6]

end Cert.Gat

end
-- ==== Proof.Finite.lean ====
/- The precondition read back: every entry of every float argument is a real number. From such arguments, the network's
   inputs. -/
module

public import proofs.«01_k».proof.Proof.GatSpec
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem

namespace Cert.Pre_finite.Reals

open Cert.Pre_finite Cert.Gat

/-- Every entry is a real number. -/
def AllReal {s : Shape} (x : FVec Ideal s .f32) : Prop := ∀ i, x i = ((EReal.toReal (x i) : ℝ) : EReal)

theorem inf_eq : Ideal.ofBits .f32 0x7F800000#32 = ⊤ := by
  simp [Ideal.ofBits, Ideal.ieee]

/-- A value whose absolute value is below `⊤` is a real number. -/
theorem real_of_abs_lt (x : EReal) (h : max x (-x) < ⊤) : x = ((EReal.toReal x : ℝ) : EReal) := by
  refine (EReal.coe_toReal ?_ ?_).symm
  · rintro rfl
    simp at h
  · rintro rfl
    simp at h

instance : Subsingleton S_.Idx := ⟨fun i j => funext fun a => a.elim0⟩

/-- One argument's test, if it came out 1, says that the argument's entries are real numbers. -/
theorem allReal_of {s : Shape} (x : FVec Ideal s .f32) (hb : S_.BroadcastsInDim s (![] : Fin 0 → Fin s.rank)) {axes : List (Fin s.rank)}
    (init : S_.Idx → BitVec 1) (hr : s.ReducesTo axes S_) (hu : 0 < S_.numel) (j : S_.Idx)
    (e : Host.reduce IntOp.andi (cmpf .olt (Host.absf x) (broadcastInDim s ![] hb (constant S_ .f32 0x7F800000#32))) init hr hu j = 1#1) :
    AllReal x := fun i => by
  have h := Host.reduce_andi_all _ init hr hu j e i
  have h' : Ideal.cmp .olt (max (x i : EReal) (-(x i : EReal))) (broadcastInDim s ![] hb (constant (F := Ideal) S_ .f32 0x7F800000#32) i) = 1#1 := h
  rw [broadcastInDim_apply _ hb _ i ix0 (fun a => a.elim0), show (constant (F := Ideal) S_ .f32 0x7F800000#32) ix0 = (⊤ : EReal) from inf_eq] at h'
  refine real_of_abs_lt _ ?_
  by_contra hn
  have h0 : Ideal.cmp .olt (max (x i : EReal) (-(x i : EReal))) ⊤ = 0#1 := by
    unfold Ideal.cmp
    simp only [decide_eq_false hn]
    rfl
  exact absurd (h0.symm.trans h') (by decide)

variable {x0 : FVec Ideal S4096x512 .f32} {x1 : IVec S4096x4096 32} {x2 x4 x6 x8 : FVec Ideal S512x64 .f32} {x3 x5 x7 x9 : FVec Ideal S128x1 .f32}
  {x10 : FVec Ideal S256x121 .f32} {x11 : FVec Ideal S242x1 .f32}

/-- The precondition says that all eleven float arguments are arrays of real numbers. -/
theorem reals (h : Cert.Pre_finite.fn (F := Ideal) x0 x1 x2 x3 x4 x5 x6 x7 x8 x9 x10 x11 = fun _ => 1#1) :
    AllReal x0 ∧ (AllReal x2 ∧ AllReal x3) ∧ (AllReal x4 ∧ AllReal x5) ∧ (AllReal x6 ∧ AllReal x7) ∧ (AllReal x8 ∧ AllReal x9) ∧ AllReal x10 ∧ AllReal x11 := by
  have e := congrFun h ix0
  unfold fn fn_part1 fn_part2 fn_part3 at e
  dsimp only at e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨allReal_of x0 _ _ _ _ _ h0, ⟨allReal_of x2 _ _ _ _ _ h2, allReal_of x3 _ _ _ _ _ h3⟩, ⟨allReal_of x4 _ _ _ _ _ h4, allReal_of x5 _ _ _ _ _ h5⟩,
    ⟨allReal_of x6 _ _ _ _ _ h6, allReal_of x7 _ _ _ _ _ h7⟩, ⟨allReal_of x8 _ _ _ _ _ h8, allReal_of x9 _ _ _ _ _ h9⟩,
    allReal_of x10 _ _ _ _ _ h10, allReal_of x11 _ _ _ _ _ h11⟩

/-- The network's inputs, from the argument arrays. -/
def inp (x0 : FVec Ideal S4096x512 .f32) (x1 : IVec S4096x4096 32) (x2 : FVec Ideal S512x64 .f32) (x3 : FVec Ideal S128x1 .f32)
    (x4 : FVec Ideal S512x64 .f32) (x5 : FVec Ideal S128x1 .f32) (x6 : FVec Ideal S512x64 .f32) (x7 : FVec Ideal S128x1 .f32)
    (x8 : FVec Ideal S512x64 .f32) (x9 : FVec Ideal S128x1 .f32) (x10 : FVec Ideal S256x121 .f32) (x11 : FVec Ideal S242x1 .f32) : Inp where
  x i k := EReal.toReal (x0 (ix2 i k))
  b i j := x1 (ix2 i j)
  W h k f := match h with
    | 0 => EReal.toReal (x2 (ix2 k f)) | 1 => EReal.toReal (x4 (ix2 k f)) | 2 => EReal.toReal (x6 (ix2 k f)) | 3 => EReal.toReal (x8 (ix2 k f))
  a h k := match h with
    | 0 => EReal.toReal (x3 (ix2 k 0)) | 1 => EReal.toReal (x5 (ix2 k 0)) | 2 => EReal.toReal (x7 (ix2 k 0)) | 3 => EReal.toReal (x9 (ix2 k 0))
  Wo k o := EReal.toReal (x10 (ix2 k o))
  ao k := EReal.toReal (x11 (ix2 k 0))

end Cert.Pre_finite.Reals

end
-- ==== Proof.KernelPad.lean ====
/- The kernel pads its output weights with zeros by writing them over the front of an array of zeros; read at an index,
   the result is the weight inside and zero beyond. -/
module

public import proofs.«01_k».proof.Proof.KernelIdealLaunch
public import Idealize.ShloMosaic.Lib.Routing.OpsSet
public import Idealize.ShloMosaic.Lib.Pointwise

@[expose] public section

set_option maxRecDepth 16384

noncomputable section

open Idealize.ShloMosaic Idealize.ShloMosaic.TcCoe Idealize.SL.Sem Idealize.ShloMosaic.Routing

namespace Cert.KernelIdeal.Value

open Cert.KernelIdeal Cert.KernelIdeal.Gen

/-- With every start at zero, an update lands where its window coordinates say. -/
theorem lands_iff {s si u : Shape} {w : Nat} (d : ScatterDims s si u) (j : u.Idx) (idx : IVec si w) (i : s.Idx)
    (hidx : ∀ k, (idx k).toInt = 0) : d.resultIdx? j idx = some i ↔ ∀ a, (i a).val = d.window j a := by
  have hs : ∀ a, d.start j idx a = 0 := fun a => by
    unfold ScatterDims.start
    split
    · exact hidx _
    · rfl
  unfold ScatterDims.resultIdx?
  split
  · rename_i h
    constructor
    · intro e a
      have := congrFun (Option.some.inj e) a
      rw [← this]
      simp [hs]
    · intro e
      congr 1
      funext a
      apply Fin.ext
      simp [hs, e a]
  · rename_i h
    constructor
    · intro e
      cases e
    · intro e
      refine absurd (fun a => ?_) h
      have := (i a).isLt
      rw [hs, ← e a]
      omega

variable (idx : IVec S1 32)

/-- A column of 121 written over the front of a column of 128. -/
theorem pad_col (x : FVec Ideal S128x1 .f32) (u : FVec Ideal S121x1 .f32) (l : Fin 128) (hidx : ∀ k, (idx k).toInt = 0) :
    Host.scatter scatter_S128x1_S1_S121x1_01_n_0_0 (fun _ b => b) x idx u (ix2 l 0)
      = if h : l.val < 121 then u (ix2 ⟨l.val, h⟩ 0) else x (ix2 l 0) := by
  have key : ∀ (j : S121x1.Idx), scatter_S128x1_S1_S121x1_01_n_0_0.resultIdx? j idx = some (ix2 l 0) ↔ l.val = (j 0).val := fun j => by
    rw [lands_iff _ _ _ _ hidx]
    constructor
    · intro h
      exact h 0
    · intro h a
      match a with
      | ⟨0, _⟩ => exact h
      | ⟨1, _⟩ => exact (congrArg Fin.val (Subsingleton.elim (α := Fin 1) 0 (j 1)))
  split
  · rename_i h
    refine scatter_set_hit _ x idx u _ _ (fun k hk => ?_) (ix2 ⟨l.val, h⟩ 0) ((key _).2 rfl)
    have := (key k).1 hk
    idx_vars k
    congr 1
    obtain rfl : k0 = ⟨l.val, h⟩ := Fin.ext this.symm
    obtain rfl : k1 = 0 := Subsingleton.elim _ _
    rfl
  · rename_i h
    refine scatter_set_miss _ x idx u _ fun k hk => h ?_
    have := (key k).1 hk
    have : (k 0).val < 121 := (k 0).isLt
    omega

/-- Four 64 × 121 weights written over the front of four of 64 × 128. -/
theorem pad_out (x : FVec Ideal S4x64x128 .f32) (u : FVec Ideal S4x64x121 .f32) (p : Fin 4) (f : Fin 64) (l : Fin 128) (hidx : ∀ k, (idx k).toInt = 0) :
    Host.scatter scatter_S4x64x128_S1_S4x64x121_012_n_2_0 (fun _ b => b) x idx u (ix3 p f l)
      = if h : l.val < 121 then u (ix3 p f ⟨l.val, h⟩) else x (ix3 p f l) := by
  have key : ∀ (j : S4x64x121.Idx), scatter_S4x64x128_S1_S4x64x121_012_n_2_0.resultIdx? j idx = some (ix3 p f l)
      ↔ p.val = (j 0).val ∧ f.val = (j 1).val ∧ l.val = (j 2).val := fun j => by
    rw [lands_iff _ _ _ _ hidx]
    constructor
    · intro h
      exact ⟨h 0, h 1, h 2⟩
    · intro h a
      match a with
      | ⟨0, _⟩ => exact h.1
      | ⟨1, _⟩ => exact h.2.1
      | ⟨2, _⟩ => exact h.2.2
  split
  · rename_i h
    refine scatter_set_hit _ x idx u _ _ (fun k hk => ?_) (ix3 p f ⟨l.val, h⟩) ((key _).2 ⟨rfl, rfl, rfl⟩)
    have := (key k).1 hk
    idx_vars k
    obtain rfl : k0 = p := Fin.ext this.1.symm
    obtain rfl : k1 = f := Fin.ext this.2.1.symm
    obtain rfl : k2 = ⟨l.val, h⟩ := Fin.ext this.2.2.symm
    rfl
  · rename_i h
    refine scatter_set_miss _ x idx u _ fun k hk => h ?_
    have := ((key k).1 hk).2.2
    have : (k 2).val < 121 := (k 2).isLt
    omega

end Cert.KernelIdeal.Value

end
-- ==== Proof.KernelHost.lean ====
/- What the host operations between the kernel calls leave, read at an index. -/
module

public import proofs.«01_k».proof.Proof.KernelIdealFrame
public import proofs.«01_k».proof.Proof.KernelPad
public import proofs.«01_k».proof.Proof.GatMath
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Gat

/-- One of four arrays. -/
def pick {α : Type} (a b c d : α) (h : Fin 4) : α := match h with | 0 => a | 1 => b | 2 => c | 3 => d

/-- Four weights stacked, read at an index. -/
theorem stack_w (A B C D : FVec Ideal S1x512x64 .f32) (h : Fin 4) (k : Fin 512) (f : Fin 64) :
    concatenate S4x512x64 0 [⟨S1x512x64, A⟩, ⟨S1x512x64, B⟩, ⟨S1x512x64, C⟩, ⟨S1x512x64, D⟩] concatenates_S1x512x64_S1x512x64_S1x512x64_S1x512x64_S4x512x64_d0 (ix3 h k f)
      = pick A B C D h (ix3 0 k f) := by
  pointwise []
  fin_cases h <;> rfl

/-- Four half vectors stacked, read at an index. -/
theorem stack_a (A B C D : FVec Ideal S1x64x1 .f32) (h : Fin 4) (f : Fin 64) :
    concatenate S4x64x1 0 [⟨S1x64x1, A⟩, ⟨S1x64x1, B⟩, ⟨S1x64x1, C⟩, ⟨S1x64x1, D⟩] concatenates_S1x64x1_S1x64x1_S1x64x1_S1x64x1_S4x64x1_d0 (ix3 h f 0)
      = pick A B C D h (ix3 0 f 0) := by
  pointwise []
  fin_cases h <;> rfl

variable (W : Valuation τ sig (Elt Ideal))

/-- The four feature weights, one over the other. -/
theorem host0_v4 (h : Fin 4) (k : Fin 512) (f : Fin 64) :
    (StableHlo.after hostOps0 W (Proc.devRef .tc main_v4) : FVec Ideal S4x512x64 .f32) (ix3 h k f)
      = (pick (W (Proc.devRef .tc main_arg2)) (W (Proc.devRef .tc main_arg4)) (W (Proc.devRef .tc main_arg6)) (W (Proc.devRef .tc main_arg8)) h : FVec Ideal S512x64 .f32) (ix2 k f) := by
  after_results_simp
  refine (stack_w _ _ _ _ _ _ _).trans ?_
  fin_cases h
  all_goals
    refine (congrFun (StableHlo.unary_result _ _ _ _ _ _) _).trans ?_
    after_results_simp
    pointwise [pick]

/-- The four score vectors' left halves. -/
theorem host0_v13 (h : Fin 4) (f : Fin 64) :
    (StableHlo.after hostOps0 W (Proc.devRef .tc main_v13) : FVec Ideal S4x64x1 .f32) (ix3 h f 0)
      = (pick (W (Proc.devRef .tc main_arg3)) (W (Proc.devRef .tc main_arg5)) (W (Proc.devRef .tc main_arg7)) (W (Proc.devRef .tc main_arg9)) h : FVec Ideal S128x1 .f32) (ix2 ⟨f.val, by omega⟩ 0) := by
  after_results_simp
  refine (stack_a _ _ _ _ _ _).trans ?_
  fin_cases h
  all_goals
    refine (congrFun (StableHlo.unary_result _ _ _ _ _ _) _).trans ?_
    after_results_simp
    pointwise [pick]

/-- The four score vectors' right halves. -/
theorem host0_v22 (h : Fin 4) (f : Fin 64) :
    (StableHlo.after hostOps0 W (Proc.devRef .tc main_v22) : FVec Ideal S4x64x1 .f32) (ix3 h f 0)
      = (pick (W (Proc.devRef .tc main_arg3)) (W (Proc.devRef .tc main_arg5)) (W (Proc.devRef .tc main_arg7)) (W (Proc.devRef .tc main_arg9)) h : FVec Ideal S128x1 .f32) (ix2 ⟨64 + f.val, by omega⟩ 0) := by
  after_results_simp
  refine (stack_a _ _ _ _ _ _).trans ?_
  fin_cases h
  all_goals
    refine (congrFun (StableHlo.unary_result _ _ _ _ _ _) _).trans ?_
    after_results_simp
    pointwise [pick]

/-- Narrowing a number keeps it. -/
theorem narrow (x : FVec Ideal S4x64x128 .f32) (i : S4x64x128.Idx) : truncf .bf16 x bitsLt_bf16_f32 i = x i := rfl

/-- The output weights of head `p`, zero beyond column 121. -/
theorem host0_v27 (p : Fin 4) (f : Fin 64) (l : Fin 128) (A : FVec Ideal S256x121 .f32) (hA : W (Proc.devRef .tc main_arg10) = A) :
    (StableHlo.after hostOps0 W (Proc.devRef .tc main_v27) : FVec Ideal S4x64x128 .bf16) (ix3 p f l)
      = if h : l.val < 121 then A (ix2 ⟨p.val * 64 + f.val, by omega⟩ ⟨l.val, h⟩) else 0 := by
  after_results
  rw [narrow, pad_out _ _ _ _ _ _ (fun k => by pointwise []; rfl)]
  rw [hA]
  pointwise []

/-- The output layer's left score vector, zero beyond 121. -/
theorem host0_v31 (l : Fin 128) (A : FVec Ideal S242x1 .f32) (hA : W (Proc.devRef .tc main_arg11) = A) :
    (StableHlo.after hostOps0 W (Proc.devRef .tc main_v31) : FVec Ideal S128x1 .f32) (ix2 l 0)
      = if h : l.val < 121 then A (ix2 ⟨l.val, by omega⟩ 0) else 0 := by
  after_results
  rw [hA]
  rw [pad_col _ _ _ _ (fun k => by pointwise []; rfl)]
  pointwise []

/-- The output layer's right score vector, zero beyond 121. -/
theorem host0_v35 (l : Fin 128) (A : FVec Ideal S242x1 .f32) (hA : W (Proc.devRef .tc main_arg11) = A) :
    (StableHlo.after hostOps0 W (Proc.devRef .tc main_v35) : FVec Ideal S128x1 .f32) (ix2 l 0)
      = if h : l.val < 121 then A (ix2 ⟨121 + l.val, by omega⟩ 0) else 0 := by
  after_results
  rw [hA]
  rw [pad_col _ _ _ _ (fun k => by pointwise []; rfl)]
  pointwise []

/-- The right scores, transposed. -/
theorem host1_v37 (h : Fin 4) (j : Fin 4096) (A : FVec Ideal S4096x4 .f32) (hA : W (Proc.devRef .tc main_v36_2) = A) :
    (StableHlo.after hostOps1 W (Proc.devRef .tc main_v37) : FVec Ideal S4x4096 .f32) (ix2 h j)
      = A (ix2 j h) := by
  after_results
  rw [hA]
  pointwise []

/-- Each head's largest right score over the blocks. -/
theorem host1_v38 (h : Fin 4) (A : FVec Ideal S16x1x4 .f32) (hA : W (Proc.devRef .tc main_v36_4) = A) :
    (StableHlo.after hostOps1 W (Proc.devRef .tc main_v38) : FVec Ideal S1x4 .f32) (ix2 0 h)
      = Finset.univ.fold max ⊥ (fun t : Fin 16 => A (ix3 t 0 h)) := by
  after_results
  rw [hA]
  pointwise []
  rfl

/-- Each head's column means. -/
theorem host1_v42 (h : Fin 4) (f : Fin 64) (A : FVec Ideal S16x4x1x64 .f32) (hA : W (Proc.devRef .tc main_v36_3) = A) :
    (StableHlo.after hostOps1 W (Proc.devRef .tc main_v42) : FVec Ideal S4x64 .f32) (ix2 h f)
      = (∑ t : Fin 16, A (ix4 t h 0 f)) * ((1 / 4096 : ℝ) : EReal) := by
  rw [← inv_eq]
  after_results
  rw [hA]
  pointwise []

/-- The output layer's right scores, as a row. -/
theorem host2_v44 (j : Fin 4096) (A : FVec Ideal S4096x1 .f32) (hA : W (Proc.devRef .tc main_v43_2) = A) :
    (StableHlo.after hostOps2 W (Proc.devRef .tc main_v44) : FVec Ideal S1x4096 .f32) (ix2 0 j)
      = A (ix2 j 0) := by
  after_results
  rw [hA]
  pointwise []

/-- The output layer's largest right score over the blocks. -/
theorem host2_v45 (A : FVec Ideal S16x1x1 .f32) (hA : W (Proc.devRef .tc main_v43_4) = A) :
    (StableHlo.after hostOps2 W (Proc.devRef .tc main_v45) : FVec Ideal S1x1 .f32) (ix2 0 0)
      = Finset.univ.fold max ⊥ (fun t : Fin 16 => A (ix3 t 0 0)) := by
  after_results
  rw [hA]
  pointwise []
  rfl

/-- The output layer's column means. -/
theorem host2_v48 (l : Fin 128) (A : FVec Ideal S16x1x128 .f32) (hA : W (Proc.devRef .tc main_v43_3) = A) :
    (StableHlo.after hostOps2 W (Proc.devRef .tc main_v48) : FVec Ideal S1x128 .f32) (ix2 0 l)
      = (∑ t : Fin 16, A (ix3 t 0 l)) * ((1 / 4096 : ℝ) : EReal) := by
  rw [← inv_eq]
  after_results
  rw [hA]
  pointwise []

/-- The result: the first 121 columns. -/
theorem host3_v50 (i : Fin 4096) (o : Fin 121) (A : FVec Ideal S4096x128 .f32) (hA : W (Proc.devRef .tc main_v49) = A) :
    (StableHlo.after hostOps3 W (Proc.devRef .tc main_v50) : FVec Ideal S4096x121 .f32) (ix2 i o)
      = A (ix2 i ⟨o.val, by omega⟩) := by
  after_results
  rw [hA]
  pointwise []

end Cert.KernelIdeal.Value

end
-- ==== Proof.KernelHeads.lean ====
/- What the kernel's bodies compute on one block of 256 rows, read at an index: an attention head's contribution to the
   second layer's features (`headPart`, four times), and the second layer's own row. -/
module

public import proofs.«01_k».proof.Proof.Gen.KernelIdeal.Skeleton
public import proofs.«01_k».proof.Proof.GatMath
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen Cert.Gat

/-- The exponential linear unit as the kernel writes it. -/
def eluE (z : EReal) : EReal := if 0 < z then z else Ideal.exp z - 1

/-- One head's row `r`, passed through the unit and contracted with the head's output weights at column `l`. -/
def headPart (adj : Vec Ideal S256x4096 .i32) (w : FVec Ideal S1x4096x64 .bf16) (el : FVec Ideal S256x1 .f32)
    (er : FVec Ideal S1x4096 .f32) (M : FVec Ideal S1x1 .f32) (cm : FVec Ideal S1x64 .f32)
    (wo : FVec Ideal S1x64x128 .bf16) (r : Fin 256) (l : Fin 128) : EReal :=
  ∑ f : Fin 64, eluE (sepRow (el (ix2 r 0)) (M (ix2 0 0)) (fun j : Fin 4096 => er (ix2 0 j)) (fun j => w (ix3 0 j f))
    (fun j => adj (ix2 r j)) (cm (ix2 0 f))) * wo (ix3 0 f l)

variable (adj : Vec Ideal S256x4096 .i32) (w : FVec Ideal S1x4096x64 .bf16) (el : FVec Ideal S256x1 .f32)
    (er : FVec Ideal S1x4096 .f32) (M : FVec Ideal S1x1 .f32) (cm : FVec Ideal S1x64 .f32)
    (wo : FVec Ideal S1x64x128 .bf16) (acc : FVec Ideal S256x128 .f32) (r : Fin 256) (l : Fin 128)

/-- The first head's contribution. -/
theorem head0 : k1_pay14 (F := Ideal) (k1_pay4 adj) (k1_pay6 w) (k1_pay7 cm) (k1_pay11 er M) (k1_pay12 el er M) (k1_pay13 el M) wo (ix2 r l)
    = headPart adj w el er M cm wo r l := by
  pointwise [k1_pay14, k1_pay4, k1_pay6, k1_pay7, k1_pay11, k1_pay12, k1_pay13, k1_pay5, k1_pay8, k1_pay9, k1_pay10, headPart, eluE, sepRow, sepWeight]

/-- The second head's contribution, on top of the first's. -/
theorem head1 : k1_pay23 (F := Ideal) acc (k1_pay17 cm) (k1_pay19 (k1_pay4 adj) (k1_pay15 el) (k1_pay16 er) M)
      (k1_pay20 (k1_pay4 adj) (k1_pay15 el) (k1_pay16 er) M w) (k1_pay21 (k1_pay4 adj) (k1_pay15 el) (k1_pay16 er) M) (k1_pay22 (F := Ideal)) wo (ix2 r l)
    = acc (ix2 r l) + headPart adj w el er M cm wo r l := by
  pointwise [k1_pay23, k1_pay17, k1_pay19, k1_pay20, k1_pay21, k1_pay22, k1_pay4, k1_pay15, k1_pay16, k1_pay18, headPart, eluE, sepRow, sepWeight]

/-- The third head's contribution. -/
theorem head2 : k1_pay32 (F := Ideal) acc (k1_pay31 (k1_pay4 adj) (k1_pay24 er) (k1_pay25 M) (k1_pay26 w) (k1_pay27 cm)
      (k1_pay28 el M) (k1_pay29 el M) (k1_pay30 el M)) wo (ix2 r l)
    = acc (ix2 r l) + headPart adj w el er M cm wo r l := by
  pointwise [k1_pay32, k1_pay31, k1_pay24, k1_pay25, k1_pay26, k1_pay27, k1_pay28, k1_pay29, k1_pay30, k1_pay4, headPart, eluE, sepRow, sepWeight]

/-- The fourth head's contribution. -/
theorem head3 : k1_pay42 (F := Ideal) (k1_pay4 adj) acc (k1_pay34 w) (k1_pay35 cm) (k1_pay39 el er M) (k1_pay40 el M) (k1_pay41 er M) wo (ix2 r l)
    = acc (ix2 r l) + headPart adj w el er M cm wo r l := by
  pointwise [k1_pay42, k1_pay34, k1_pay35, k1_pay39, k1_pay40, k1_pay41, k1_pay33, k1_pay36, k1_pay37, k1_pay38, k1_pay4, headPart, eluE, sepRow, sepWeight]

/-- The second layer's row at one column. -/
theorem row2 (x0 : Vec Ideal S256x4096 .i32) (x1 : FVec Ideal S4096x128 .bf16) (x2 : FVec Ideal S256x1 .f32)
    (x3 : FVec Ideal S1x4096 .f32) (x4 : FVec Ideal S1x1 .f32) (x5 : FVec Ideal S1x128 .f32) :
    k2_pay1 (F := Ideal) (k2_pay2 x0) (k2_pay4 x1) (k2_pay5 x5) (k2_pay9 x2 x3 x4) (k2_pay10 x2 x3 x4) (ix2 r l)
    = sepRow (x2 (ix2 r 0)) (x4 (ix2 0 0)) (fun j : Fin 4096 => x3 (ix2 0 j)) (fun j => x1 (ix2 j l)) (fun j => x0 (ix2 r j)) (x5 (ix2 0 l)) := by
  pointwise [k2_pay1, k2_pay2, k2_pay4, k2_pay5, k2_pay9, k2_pay10, k2_pay3, k2_pay6, k2_pay7, k2_pay8, sepRow, sepWeight]

end Cert.KernelIdeal.Value

end
-- ==== Proof.KernelBlock0.lean ====
/- What the first kernel call's body leaves in each of its output blocks, read at an index, from its input blocks:
   the four heads' features of 256 rows, their left and right scores, the features' column sums over the block and the
   block's largest right score. -/
module

public import proofs.«01_k».proof.Proof.KernelIdealFrame
public import proofs.«01_k».proof.Proof.KernelHeads
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Gat

/-- Head `h`'s feature `f` of row `r`. -/
def feat (x0 : FVec Ideal S256x512 .f32) (x1 : FVec Ideal S4x512x64 .f32) (h : Fin 4) (r : Fin 256) (f : Fin 64) : EReal :=
  ∑ k : Fin 512, x0 (ix2 r k) * x1 (ix3 h k f)

/-- Head `h`'s score of row `r` under the vectors `a`. -/
def featScore (x0 : FVec Ideal S256x512 .f32) (x1 : FVec Ideal S4x512x64 .f32) (a : FVec Ideal S4x64x1 .f32) (h : Fin 4) (r : Fin 256) : EReal :=
  ∑ f : Fin 64, feat x0 x1 h r f * a (ix3 h f 0)

variable (x0 : FVec Ideal S256x512 .f32) (x1 : FVec Ideal S4x512x64 .f32) (x2 x3 : FVec Ideal S4x64x1 .f32)

/-- Window 5 holds the left scores. -/
theorem out0_5_at (r : Fin 256) (h : Fin 4) : (out0_5 (F := Ideal) x0 x1 x2 x3 : FVec Ideal S256x4 .f32) (ix2 r h) = featScore x0 x1 x2 h r := by
  unfold out0_5
  frame_out
  pointwise [k0_pay23, k0_pay3, k0_pay9, k0_pay15, k0_pay27, k0_pay28, k0_pay1, k0_pay7, k0_pay13, k0_pay19, k0_pay20, featScore, feat]
  fin_cases h <;> rfl

/-- Window 6 holds the right scores. -/
theorem out0_6_at (r : Fin 256) (h : Fin 4) : (out0_6 (F := Ideal) x0 x1 x2 x3 : FVec Ideal S256x4 .f32) (ix2 r h) = featScore x0 x1 x3 h r := by
  unfold out0_6
  frame_out
  pointwise [k0_pay24, k0_pay4, k0_pay10, k0_pay16, k0_pay22, k0_pay27, k0_pay28, k0_pay1, k0_pay7, k0_pay13, k0_pay19, k0_pay20, featScore, feat]
  fin_cases h <;> rfl

/-- Window 7 holds the column sums of the features over the block. -/
theorem out0_7_at (h : Fin 4) (f : Fin 64) : (out0_7 (F := Ideal) x0 x1 x2 x3 : FVec Ideal S1x4x1x64 .f32) (ix4 0 h 0 f) = ∑ r : Fin 256, feat x0 x1 h r f := by
  unfold out0_7
  frame_out
  pointwise [k0_pay25, k0_pay5, k0_pay11, k0_pay17, k0_pay22, k0_pay27, k0_pay28, k0_pay1, k0_pay7, k0_pay13, k0_pay19, k0_pay20, feat]
  fin_cases h <;> rfl

/-- Window 8 holds the block's largest right score. -/
theorem out0_8_at (h : Fin 4) : (out0_8 (F := Ideal) x0 x1 x2 x3 : FVec Ideal S1x1x4 .f32) (ix3 0 0 h)
    = Finset.univ.fold max ⊥ (fun r : Fin 256 => featScore x0 x1 x3 h r) := by
  unfold out0_8
  frame_out
  pointwise [k0_pay26, k0_pay6, k0_pay12, k0_pay18, k0_pay22, k0_pay4, k0_pay10, k0_pay16, k0_pay27, k0_pay28, k0_pay1, k0_pay7, k0_pay13, k0_pay19, k0_pay20, featScore, feat]
  fin_cases h <;> rfl

/-- Window 4 holds the features. -/
theorem out0_4_at (h : Fin 4) (r : Fin 256) (f : Fin 64) : (out0_4 (F := Ideal) x0 x1 x2 x3 : FVec Ideal S4x256x64 .bf16) (ix3 h r f) = feat x0 x1 h r f := by
  unfold out0_4
  canon_tiles y hy
  all_goals
    idx_vars y
    obtain rfl : r = y1 := Fin.ext hy1
    obtain rfl : f = y2 := Fin.ext hy2
    have ha := y0.isLt
  · obtain rfl : h = 3 := Fin.ext (by have := hy0; simp at this; omega)
    pointwise [k0_pay21, k0_pay28, k0_pay20, k0_pay19, feat]
  · obtain rfl : h = 2 := Fin.ext (by have := hy0; simp at this; omega)
    pointwise [k0_pay14, k0_pay13, feat]
  · obtain rfl : h = 1 := Fin.ext (by have := hy0; simp at this; omega)
    pointwise [k0_pay8, k0_pay7, feat]
  · obtain rfl : h = 0 := Fin.ext (by have := hy0; simp at this; omega)
    pointwise [k0_pay2, k0_pay1, feat]

end Cert.KernelIdeal.Value

end
-- ==== Proof.KernelArray0.lean ====
/- What the first kernel call leaves in its five result arrays, as functions of the arrays it was given. -/
module

public import proofs.«01_k».proof.Proof.KernelBlock0

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Gat

/-- Row `r` of block `t` among all the rows. -/
def row (t : Fin 16) (r : Fin 256) : Fin 4096 := ⟨t.val * 256 + r.val, by omega⟩

/-- Head `h`'s feature `f` of row `i`, from the whole arrays. -/
def featG (x : FVec Ideal S4096x512 .f32) (w : FVec Ideal S4x512x64 .f32) (h : Fin 4) (i : Fin 4096) (f : Fin 64) : EReal :=
  ∑ k : Fin 512, x (ix2 i k) * w (ix3 h k f)

/-- Head `h`'s score of row `i` under the vectors `a`. -/
def scoreG (x : FVec Ideal S4096x512 .f32) (w : FVec Ideal S4x512x64 .f32) (a : FVec Ideal S4x64x1 .f32) (h : Fin 4) (i : Fin 4096) : EReal :=
  ∑ f : Fin 64, featG x w h i f * a (ix3 h f 0)

/-- Where each window's block stands at grid point `t`. -/
theorem idx0 : ∀ t : Fin cfg0.N, win0_0.index t = ![t.val, 0] ∧ win0_1.index t = ![0, 0, 0] ∧ win0_2.index t = ![0, 0, 0] ∧ win0_3.index t = ![0, 0, 0]
    ∧ win0_4.index t = ![0, t.val, 0] ∧ win0_5.index t = ![t.val, 0] ∧ win0_6.index t = ![t.val, 0] ∧ win0_7.index t = ![t.val, 0, 0, 0] ∧ win0_8.index t = ![t.val, 0, 0] :=
  (by decide +kernel : ∀ t : Fin grid0.N, _)

variable (V : (c : Dev nD) → (b : Ref sig .tc) → Buf (Elt Ideal) ((c : Thread nD τ).loc b)) (c : Dev nD)

/-- The features' array. -/
theorem arr0_4 : (dat0 V c).arrAt 4 cfg0.N = fun i : S4x4096x64.Idx => featG (V c main_arg0) (V c main_v4) (i 0) (i 1) (i 2) := by
  refine (dat0 V c).arrAt_eq_of_covers 4 _ (by decide +kernel) fun t _ y => ?_
  blk_simp
  rw [after0_4]
  idx_vars y
  rw [out0_4_at]
  pointwise [feat, featG]
  blk_point [iblk0, idx0 t]

/-- The left scores' array. -/
theorem arr0_5 : (dat0 V c).arrAt 5 cfg0.N = fun i : S4096x4.Idx => scoreG (V c main_arg0) (V c main_v4) (V c main_v13) (i 1) (i 0) := by
  refine (dat0 V c).arrAt_eq_of_covers 5 _ (by decide +kernel) fun t _ y => ?_
  blk_simp
  rw [after0_5]
  idx_vars y
  rw [out0_5_at]
  pointwise [featScore, feat, scoreG, featG]
  blk_point [iblk0, idx0 t]

/-- The right scores' array. -/
theorem arr0_6 : (dat0 V c).arrAt 6 cfg0.N = fun i : S4096x4.Idx => scoreG (V c main_arg0) (V c main_v4) (V c main_v22) (i 1) (i 0) := by
  refine (dat0 V c).arrAt_eq_of_covers 6 _ (by decide +kernel) fun t _ y => ?_
  blk_simp
  rw [after0_6]
  idx_vars y
  rw [out0_6_at]
  pointwise [featScore, feat, scoreG, featG]
  blk_point [iblk0, idx0 t]

/-- The array of the features' column sums over each block. -/
theorem arr0_7 : (dat0 V c).arrAt 7 cfg0.N = fun i : S16x4x1x64.Idx => ∑ r : Fin 256, featG (V c main_arg0) (V c main_v4) (i 1) (row (i 0) r) (i 3) := by
  refine (dat0 V c).arrAt_eq_of_covers 7 _ (by decide +kernel) fun t _ y => ?_
  blk_simp
  rw [after0_7]
  idx_vars y
  obtain rfl : y0 = 0 := Fin.ext (by omega)
  obtain rfl : y2 = 0 := Fin.ext (by omega)
  rw [out0_7_at]
  pointwise [feat, featG, row]
  blk_point [iblk0, idx0 t]

/-- The array of each block's largest right score. -/
theorem arr0_8 : (dat0 V c).arrAt 8 cfg0.N = fun i : S16x1x4.Idx => Finset.univ.fold max ⊥ (fun r : Fin 256 => scoreG (V c main_arg0) (V c main_v4) (V c main_v22) (i 2) (row (i 0) r)) := by
  refine (dat0 V c).arrAt_eq_of_covers 8 _ (by decide +kernel) fun t _ y => ?_
  blk_simp
  rw [after0_8]
  idx_vars y
  obtain rfl : y0 = 0 := Fin.ext (by omega)
  obtain rfl : y1 = 0 := Fin.ext (by omega)
  rw [out0_8_at]
  pointwise [featScore, feat, scoreG, featG, row]
  blk_point [iblk0, idx0 t]

end Cert.KernelIdeal.Value

end
-- ==== Proof.KernelBlock1.lean ====
/- The first attention layer's body on one block of 256 rows, read at an index: the second layer's features are the sum
   of the four heads' contributions, and the other windows are made from those features. -/
module

public import proofs.«01_k».proof.Proof.KernelIdealFrame
public import proofs.«01_k».proof.Proof.KernelHeads
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Gat

variable (x0 : Vec Ideal S256x4096 .i32) (x1 : FVec Ideal S4x4096x64 .bf16) (x2 : FVec Ideal S256x4 .f32)
    (x3 : FVec Ideal S4x4096 .f32) (x4 : FVec Ideal S1x4 .f32) (x5 : FVec Ideal S4x64 .f32)
    (x6 : FVec Ideal S4x64x128 .bf16) (x7 x8 : FVec Ideal S128x1 .f32) (r : Fin 256) (l : Fin 128)

/-- Head `h`'s contribution to the second layer's features at row `r` of the block and column `l`. -/
def headAt (h : Fin 4) : EReal :=
  ∑ f : Fin 64, eluE (sepRow (x2 (ix2 r h)) (x4 (ix2 0 h)) (fun j : Fin 4096 => x3 (ix2 h j)) (fun j => x1 (ix3 h j f))
    (fun j => x0 (ix2 r j)) (x5 (ix2 h f))) * x6 (ix3 h f l)

/-- The second layer's features at row `r` of the block and column `l`: the four contributions added up. -/
def featAt : EReal :=
  headAt x0 x1 x2 x3 x4 x5 x6 r l 0 + headAt x0 x1 x2 x3 x4 x5 x6 r l 1 + headAt x0 x1 x2 x3 x4 x5 x6 r l 2
    + headAt x0 x1 x2 x3 x4 x5 x6 r l 3

/-- The accumulated features are the four heads' contributions. -/
theorem acc_at : (k1_pay54 (F := Ideal) x0 x1 x2 x3 x4 x5 x6 x7 x8 : FVec Ideal S256x128 .f32) (ix2 r l)
    = featAt x0 x1 x2 x3 x4 x5 x6 r l := by
  unfold k1_pay54 k1_pay49 k1_pay50 k1_pay51 k1_pay52 k1_pay53 k1_pay48 k1_pay45 k1_pay46 k1_pay47
  rw [head3, head2, head1, head0]
  pointwise [featAt, headAt, headPart]

/-- Window 9 holds the second layer's features. -/
theorem out1_9_at : (out1_9 (F := Ideal) x0 x1 x2 x3 x4 x5 x6 x7 x8 : FVec Ideal S256x128 .bf16) (ix2 r l)
    = featAt x0 x1 x2 x3 x4 x5 x6 r l := by
  rw [← acc_at x0 x1 x2 x3 x4 x5 x6 x7 x8]
  unfold out1_9
  frame_out
  rfl

/-- Window 10 holds the left scores. -/
theorem out1_10_at : (out1_10 (F := Ideal) x0 x1 x2 x3 x4 x5 x6 x7 x8 : FVec Ideal S256x1 .f32) (ix2 r 0)
    = ∑ l : Fin 128, featAt x0 x1 x2 x3 x4 x5 x6 r l * x7 (ix2 l 0) := by
  simp only [← acc_at x0 x1 x2 x3 x4 x5 x6 x7 x8]
  unfold out1_10
  frame_out
  generalize k1_pay54 (F := Ideal) x0 x1 x2 x3 x4 x5 x6 x7 x8 = acc
  pointwise [k1_pay1]

/-- The right scores. -/
theorem er2_at : (k1_pay55 (F := Ideal) x0 x1 x2 x3 x4 x5 x6 x7 x8 : FVec Ideal S256x1 .f32) (ix2 r 0)
    = ∑ l : Fin 128, featAt x0 x1 x2 x3 x4 x5 x6 r l * x8 (ix2 l 0) := by
  simp only [← acc_at x0 x1 x2 x3 x4 x5 x6 x7 x8]
  unfold k1_pay55 k1_pay44
  change _ = ∑ l : Fin 128, (k1_pay54 (F := Ideal) x0 x1 x2 x3 x4 x5 x6 x7 x8 : FVec Ideal S256x128 .f32) (ix2 r l) * x8 (ix2 l 0)
  unfold k1_pay54
  generalize k1_pay42 (F := Ideal) _ _ _ _ _ _ _ _ = acc
  pointwise []

/-- Window 11 holds the right scores. -/
theorem out1_11_at : (out1_11 (F := Ideal) x0 x1 x2 x3 x4 x5 x6 x7 x8 : FVec Ideal S256x1 .f32) (ix2 r 0)
    = ∑ l : Fin 128, featAt x0 x1 x2 x3 x4 x5 x6 r l * x8 (ix2 l 0) := by
  rw [← er2_at x0 x1 x2 x3 x4 x5 x6 x7 x8]
  unfold out1_11
  frame_out

/-- Window 12 holds the features' column sums over the block. -/
theorem out1_12_at : (out1_12 (F := Ideal) x0 x1 x2 x3 x4 x5 x6 x7 x8 : FVec Ideal S1x1x128 .f32) (ix3 0 0 l)
    = ∑ r : Fin 256, featAt x0 x1 x2 x3 x4 x5 x6 r l := by
  simp only [← acc_at x0 x1 x2 x3 x4 x5 x6 x7 x8]
  unfold out1_12
  frame_out
  generalize k1_pay54 (F := Ideal) x0 x1 x2 x3 x4 x5 x6 x7 x8 = acc
  pointwise [k1_pay2]

/-- Window 13 holds the block's largest right score. -/
theorem out1_13_at : (out1_13 (F := Ideal) x0 x1 x2 x3 x4 x5 x6 x7 x8 : FVec Ideal S1x1x1 .f32) (ix3 0 0 0)
    = Finset.univ.fold max ⊥ (fun r : Fin 256 => ∑ l : Fin 128, featAt x0 x1 x2 x3 x4 x5 x6 r l * x8 (ix2 l 0)) := by
  simp only [← er2_at x0 x1 x2 x3 x4 x5 x6 x7 x8]
  unfold out1_13
  frame_out
  generalize k1_pay55 (F := Ideal) x0 x1 x2 x3 x4 x5 x6 x7 x8 = acc
  pointwise [k1_pay3]
  rfl

/-- The second layer's body: its window holds the attention rows. -/
theorem out2_6_at (z0 : Vec Ideal S256x4096 .i32) (z1 : FVec Ideal S4096x128 .bf16) (z2 : FVec Ideal S256x1 .f32)
    (z3 : FVec Ideal S1x4096 .f32) (z4 : FVec Ideal S1x1 .f32) (z5 : FVec Ideal S1x128 .f32) :
    (out2_6 (F := Ideal) z0 z1 z2 z3 z4 z5 : FVec Ideal S256x128 .f32) (ix2 r l)
    = sepRow (z2 (ix2 r 0)) (z4 (ix2 0 0)) (fun j : Fin 4096 => z3 (ix2 0 j)) (fun j => z1 (ix2 j l)) (fun j => z0 (ix2 r j)) (z5 (ix2 0 l)) := by
  rw [← row2]
  unfold out2_6
  frame_out

end Cert.KernelIdeal.Value

end
-- ==== Proof.KernelRead1.lean ====
/- What the second kernel call's body reads at a grid point, and the second layer's features from the whole arrays. -/
module

public import proofs.«01_k».proof.Proof.KernelBlock1

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Gat

/-- Row `r` of block `t` among all the rows. -/
def rowN (t : Nat) (ht : t < 16) (r : Fin 256) : Fin 4096 := ⟨t * 256 + r.val, by omega⟩

section
variable (b : Vec Ideal S4096x4096 .i32) (w : FVec Ideal S4x4096x64 .bf16) (el : FVec Ideal S4096x4 .f32)
    (er : FVec Ideal S4x4096 .f32) (M : FVec Ideal S1x4 .f32) (cm : FVec Ideal S4x64 .f32) (wo : FVec Ideal S4x64x128 .bf16)

/-- Head `h`'s contribution to the second layer's features, row `i` and column `l`, from the whole arrays. -/
def headG (i : Fin 4096) (l : Fin 128) (h : Fin 4) : EReal :=
  ∑ f : Fin 64, eluE (sepRow (el (ix2 i h)) (M (ix2 0 h)) (fun j : Fin 4096 => er (ix2 h j)) (fun j => w (ix3 h j f))
    (fun j => b (ix2 i j)) (cm (ix2 h f))) * wo (ix3 h f l)

/-- The second layer's features, row `i` and column `l`. -/
def outFeat (i : Fin 4096) (l : Fin 128) : EReal :=
  headG b w el er M cm wo i l 0 + headG b w el er M cm wo i l 1 + headG b w el er M cm wo i l 2 + headG b w el er M cm wo i l 3
end

/-- Where each window's block stands at grid point `t`. -/
theorem idx1 : ∀ t : Fin cfg1.N, win1_0.index t = ![t.val, 0] ∧ win1_1.index t = ![0, 0, 0] ∧ win1_2.index t = ![t.val, 0] ∧ win1_3.index t = ![0, 0]
    ∧ win1_4.index t = ![0, 0] ∧ win1_5.index t = ![0, 0] ∧ win1_6.index t = ![0, 0, 0] ∧ win1_7.index t = ![0, 0] ∧ win1_8.index t = ![0, 0]
    ∧ win1_9.index t = ![t.val, 0] ∧ win1_10.index t = ![t.val, 0] ∧ win1_11.index t = ![t.val, 0] ∧ win1_12.index t = ![t.val, 0, 0] ∧ win1_13.index t = ![t.val, 0, 0] :=
  (by decide +kernel : ∀ t : Fin grid1.N, _)

theorem lt1 (t : Fin cfg1.N) : t.val < 16 := t.isLt

variable (V : (c : Dev nD) → (b : Ref sig .tc) → Buf (Elt Ideal) ((c : Thread nD τ).loc b)) (c : Dev nD) (t : Fin cfg1.N)

theorem read1_0 (r : Fin 256) (j : Fin 4096) : (iblk1 V c 0 t : Vec Ideal S256x4096 .i32) (ix2 r j)
    = (V c main_arg1 : Vec Ideal S4096x4096 .i32) (ix2 (rowN t.val (lt1 t) r) j) := by
  blk_point [iblk1, idx1 t, rowN]
theorem read1_2 (r : Fin 256) (h : Fin 4) : (iblk1 V c 2 t : FVec Ideal S256x4 .f32) (ix2 r h)
    = (V c main_v36_1 : FVec Ideal S4096x4 .f32) (ix2 (rowN t.val (lt1 t) r) h) := by
  blk_point [iblk1, idx1 t, rowN]
theorem read1_1 : (iblk1 V c 1 t : FVec Ideal S4x4096x64 .bf16) = V c main_v36_0 := by blk_ext! [iblk1, idx1 t]
theorem read1_3 : (iblk1 V c 3 t : FVec Ideal S4x4096 .f32) = V c main_v37 := by blk_ext! [iblk1, idx1 t]
theorem read1_4 : (iblk1 V c 4 t : FVec Ideal S1x4 .f32) = V c main_v38 := by blk_ext! [iblk1, idx1 t]
theorem read1_5 : (iblk1 V c 5 t : FVec Ideal S4x64 .f32) = V c main_v42 := by blk_ext! [iblk1, idx1 t]
theorem read1_6 : (iblk1 V c 6 t : FVec Ideal S4x64x128 .bf16) = V c main_v27 := by blk_ext! [iblk1, idx1 t]
theorem read1_7 : (iblk1 V c 7 t : FVec Ideal S128x1 .f32) = V c main_v31 := by blk_ext! [iblk1, idx1 t]
theorem read1_8 : (iblk1 V c 8 t : FVec Ideal S128x1 .f32) = V c main_v35 := by blk_ext! [iblk1, idx1 t]

/-- The second layer's features from the arrays a region was given. -/
@[irreducible] def featV (i : Fin 4096) (l : Fin 128) : EReal :=
  outFeat (V c main_arg1) (V c main_v36_0) (V c main_v36_1) (V c main_v37) (V c main_v38) (V c main_v42) (V c main_v27) i l

/-- One block's features are the whole array's at the block's rows. -/
theorem featAt_blk (r : Fin 256) (l : Fin 128) :
    featAt (iblk1 V c 0 t) (iblk1 V c 1 t) (iblk1 V c 2 t) (iblk1 V c 3 t) (iblk1 V c 4 t) (iblk1 V c 5 t) (iblk1 V c 6 t) r l
      = featV V c (rowN t.val (lt1 t) r) l := by
  unfold featAt headAt featV outFeat headG
  rw [read1_1, read1_3, read1_4, read1_5, read1_6]
  simp only [read1_0, read1_2]

/-- The second layer's score of row `i` under the vector `a`. -/
@[irreducible] def scoreV (a : FVec Ideal S128x1 .f32) (i : Fin 4096) : EReal := ∑ l : Fin 128, featV V c i l * a (ix2 l 0)

/-- The features' column sum over block `s`. -/
@[irreducible] def colV (s : Fin 16) (l : Fin 128) : EReal := ∑ r : Fin 256, featV V c (rowN s.val s.isLt r) l

/-- The largest right score in block `s`. -/
@[irreducible] def maxV (a : FVec Ideal S128x1 .f32) (s : Fin 16) : EReal :=
  Finset.univ.fold max ⊥ (fun r : Fin 256 => scoreV V c a (rowN s.val s.isLt r))

/-- What the body leaves in window 9 at a grid point. -/
theorem blk1_9 (r : Fin 256) (l : Fin 128) : (out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) : FVec Ideal S256x128 .bf16) (ix2 r l)
    = featV V c (rowN t.val (lt1 t) r) l := by
  rw [out1_9_at, featAt_blk]

/-- What it leaves in window 10. -/
theorem blk1_10 (r : Fin 256) : (out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) : FVec Ideal S256x1 .f32) (ix2 r 0)
    = scoreV V c (V c main_v31) (rowN t.val (lt1 t) r) := by
  rw [out1_10_at, read1_7]
  simp only [featAt_blk, scoreV]

/-- What it leaves in window 11. -/
theorem blk1_11 (r : Fin 256) : (out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) : FVec Ideal S256x1 .f32) (ix2 r 0)
    = scoreV V c (V c main_v35) (rowN t.val (lt1 t) r) := by
  rw [out1_11_at, read1_8]
  simp only [featAt_blk, scoreV]

/-- What it leaves in window 12. -/
theorem blk1_12 (l : Fin 128) : (out1_12 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) : FVec Ideal S1x1x128 .f32) (ix3 0 0 l)
    = colV V c ⟨t.val, lt1 t⟩ l := by
  rw [out1_12_at]
  simp only [featAt_blk, colV]

/-- What it leaves in window 13. -/
theorem blk1_13 : (out1_13 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) : FVec Ideal S1x1x1 .f32) (ix3 0 0 0)
    = maxV V c (V c main_v35) ⟨t.val, lt1 t⟩ := by
  rw [out1_13_at, read1_8]
  simp only [featAt_blk, maxV, scoreV]

end Cert.KernelIdeal.Value

end
-- ==== Proof.KernelArray1.lean ====
/- What the second kernel call leaves in its five result arrays, as functions of the arrays it was given. -/
module

public import proofs.«01_k».proof.Proof.KernelRead1

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Gat

theorem cov1_9 : (cfg1.win 9).Covers := by decide +kernel
theorem cov1_10 : (cfg1.win 10).Covers := by decide +kernel
theorem cov1_11 : (cfg1.win 11).Covers := by decide +kernel
theorem cov1_12 : (cfg1.win 12).Covers := by decide +kernel
theorem cov1_13 : (cfg1.win 13).Covers := by decide +kernel

variable (V : (c : Dev nD) → (b : Ref sig .tc) → Buf (Elt Ideal) ((c : Thread nD τ).loc b)) (c : Dev nD)

/-- The features' array. -/
theorem arr1_9 : (dat1 V c).arrAt 9 cfg1.N = fun i : S4096x128.Idx => featV V c (i 0) (i 1) := by
  refine (dat1 V c).arrAt_eq_of_covers 9 _ cov1_9 fun t _ y => ?_
  blk_simp
  rw [after1_9]
  idx_vars y
  refine (blk1_9 V c t y0 y1).trans (congrArg₂ (featV V c) (Fin.ext ?_) (Fin.ext ?_))
  all_goals blk_simp [idx1 t, rowN]

/-- The left scores' array. -/
theorem arr1_10 : (dat1 V c).arrAt 10 cfg1.N = fun i : S4096x1.Idx => scoreV V c (V c main_v31) (i 0) := by
  refine (dat1 V c).arrAt_eq_of_covers 10 _ cov1_10 fun t _ y => ?_
  blk_simp
  rw [after1_10]
  idx_vars y
  obtain rfl : y1 = 0 := Subsingleton.elim _ _
  refine (blk1_10 V c t y0).trans (congrArg (scoreV V c _) (Fin.ext ?_))
  blk_simp [idx1 t, rowN]

/-- The right scores' array. -/
theorem arr1_11 : (dat1 V c).arrAt 11 cfg1.N = fun i : S4096x1.Idx => scoreV V c (V c main_v35) (i 0) := by
  refine (dat1 V c).arrAt_eq_of_covers 11 _ cov1_11 fun t _ y => ?_
  blk_simp
  rw [after1_11]
  idx_vars y
  obtain rfl : y1 = 0 := Subsingleton.elim _ _
  refine (blk1_11 V c t y0).trans (congrArg (scoreV V c _) (Fin.ext ?_))
  blk_simp [idx1 t, rowN]

/-- The array of the features' column sums over each block. -/
theorem arr1_12 : (dat1 V c).arrAt 12 cfg1.N = fun i : S16x1x128.Idx => colV V c (i 0) (i 2) := by
  refine (dat1 V c).arrAt_eq_of_covers 12 _ cov1_12 fun t _ y => ?_
  blk_simp
  rw [after1_12]
  idx_vars y
  obtain rfl : y0 = 0 := Subsingleton.elim _ _
  obtain rfl : y1 = 0 := Subsingleton.elim _ _
  refine (blk1_12 V c t y2).trans (congrArg₂ (colV V c) (Fin.ext ?_) (Fin.ext ?_))
  · blk_simp [idx1 t, rowN]
    rfl
  · blk_simp [idx1 t, rowN]

/-- The array of each block's largest right score. -/
theorem arr1_13 : (dat1 V c).arrAt 13 cfg1.N = fun i : S16x1x1.Idx => maxV V c (V c main_v35) (i 0) := by
  refine (dat1 V c).arrAt_eq_of_covers 13 _ cov1_13 fun t _ y => ?_
  blk_simp
  rw [after1_13]
  idx_vars y
  obtain rfl : y0 = 0 := Subsingleton.elim _ _
  obtain rfl : y1 = 0 := Subsingleton.elim _ _
  obtain rfl : y2 = 0 := Subsingleton.elim _ _
  refine (blk1_13 V c t).trans (congrArg (maxV V c _) (Fin.ext ?_))
  blk_simp [idx1 t, rowN]
  rfl

end Cert.KernelIdeal.Value

end
-- ==== Proof.KernelLayer1.lean ====
/- The kernel's first layer at real inputs: what the first call is given and leaves, what the second call is given, and
   the second layer's features, each as the network's own reals. -/
module

public import proofs.«01_k».proof.Proof.GatSpec
public import proofs.«01_k».proof.Proof.KernelHost
public import proofs.«01_k».proof.Proof.KernelArray0
public import proofs.«01_k».proof.Proof.KernelArray1

@[expose] public section

set_option maxRecDepth 16384

noncomputable section

open Idealize.ShloMosaic Idealize.ShloMosaic.TcCoe Idealize.SL Idealize.SL.Sem

namespace Cert.KernelIdeal.Value

open Cert.KernelIdeal Cert.KernelIdeal.Gen Cert.Gat

/-- The arguments in memory are the network's inputs. -/
structure Holds (m : (ℓ : Loc nD τ sig) → Buf (Elt Ideal) ℓ) (c : Dev nD) (I : Inp) : Prop where
  x : ∀ i k, (m ((c : Thread nD τ).loc main_arg0) : FVec Ideal S4096x512 .f32) (ix2 i k) = ((I.x i k : ℝ) : EReal)
  b : ∀ i j, (m ((c : Thread nD τ).loc main_arg1) : Vec Ideal S4096x4096 .i32) (ix2 i j) = I.b i j
  W : ∀ h k f, (pick (m ((c : Thread nD τ).loc main_arg2)) (m ((c : Thread nD τ).loc main_arg4)) (m ((c : Thread nD τ).loc main_arg6)) (m ((c : Thread nD τ).loc main_arg8)) h : FVec Ideal S512x64 .f32) (ix2 k f) = ((I.W h k f : ℝ) : EReal)
  a : ∀ h k, (pick (m ((c : Thread nD τ).loc main_arg3)) (m ((c : Thread nD τ).loc main_arg5)) (m ((c : Thread nD τ).loc main_arg7)) (m ((c : Thread nD τ).loc main_arg9)) h : FVec Ideal S128x1 .f32) (ix2 k 0) = ((I.a h k : ℝ) : EReal)
  Wo : ∀ k o, (m ((c : Thread nD τ).loc main_arg10) : FVec Ideal S256x121 .f32) (ix2 k o) = ((I.Wo k o : ℝ) : EReal)
  ao : ∀ k, (m ((c : Thread nD τ).loc main_arg11) : FVec Ideal S242x1 .f32) (ix2 k 0) = ((I.ao k : ℝ) : EReal)

/-! ## Over plain arrays -/

section

variable {I : Inp}

theorem featG_coe {x : FVec Ideal S4096x512 .f32} {w : FVec Ideal S4x512x64 .f32} (hx : ∀ i k, x (ix2 i k) = ((I.x i k : ℝ) : EReal))
    (hw : ∀ h k f, w (ix3 h k f) = ((I.W h k f : ℝ) : EReal)) (h : Fin 4) (i : Fin 4096) (f : Fin 64) : featG x w h i f = ((wh I h i f : ℝ) : EReal) := by
  unfold featG wh
  simp only [hx, hw, ← EReal.coe_mul, ← coe_sum]

theorem featG_sum {x : FVec Ideal S4096x512 .f32} {w : FVec Ideal S4x512x64 .f32} (hx : ∀ i k, x (ix2 i k) = ((I.x i k : ℝ) : EReal))
    (hw : ∀ h k f, w (ix3 h k f) = ((I.W h k f : ℝ) : EReal)) (h : Fin 4) (e : Fin 256 → Fin 4096) (f : Fin 64) :
    ∑ r : Fin 256, featG x w h (e r) f = ((∑ r : Fin 256, wh I h (e r) f : ℝ) : EReal) := by
  simp only [featG_coe hx hw, ← coe_sum]

theorem scoreG_coe {x : FVec Ideal S4096x512 .f32} {w : FVec Ideal S4x512x64 .f32} {a : FVec Ideal S4x64x1 .f32} (hx : ∀ i k, x (ix2 i k) = ((I.x i k : ℝ) : EReal))
    (hw : ∀ h k f, w (ix3 h k f) = ((I.W h k f : ℝ) : EReal)) (v : Fin 4 → Fin 64 → ℝ) (ha : ∀ h f, a (ix3 h f 0) = ((v h f : ℝ) : EReal)) (h : Fin 4) (i : Fin 4096) :
    scoreG x w a h i = ((∑ f : Fin 64, wh I h i f * v h f : ℝ) : EReal) := by
  unfold scoreG
  simp only [featG_coe hx hw, ha, ← EReal.coe_mul, ← coe_sum]

/-- One head's contribution at real inputs. -/
theorem headG_coe {b : Vec Ideal S4096x4096 .i32} {w : FVec Ideal S4x4096x64 .bf16} {el : FVec Ideal S4096x4 .f32} {er : FVec Ideal S4x4096 .f32}
    {M : FVec Ideal S1x4 .f32} {cm : FVec Ideal S4x64 .f32} {wo : FVec Ideal S4x64x128 .bf16} {q : Fin 4 → ℝ} {p : Fin 4 → Fin 64 → Fin 128 → ℝ}
    (hb : ∀ i j, b (ix2 i j) = I.b i j) (hw : ∀ h i f, w (ix3 h i f) = ((wh I h i f : ℝ) : EReal)) (hel : ∀ i h, el (ix2 i h) = ((sl I h i : ℝ) : EReal))
    (her : ∀ h j, er (ix2 h j) = ((sr I h j : ℝ) : EReal)) (hM : ∀ h, M (ix2 0 h) = ((q h : ℝ) : EReal))
    (hcm : ∀ h f, cm (ix2 h f) = (((∑ j, wh I h j f) * (1 / 4096) : ℝ) : EReal)) (hwo : ∀ h f l, wo (ix3 h f l) = ((p h f l : ℝ) : EReal))
    (i : Fin 4096) (l : Fin 128) (h : Fin 4) : headG b w el er M cm wo i l h = ((∑ f : Fin 64, hid I h i f * p h f l : ℝ) : EReal) := by
  unfold headG
  simp only [hb, hw, hel, her, hM, hcm, hwo, sepRow_coe]
  have e : ∀ z : ℝ, eluE (z : EReal) = ((elu z : ℝ) : EReal) := fun z => elu_coe z
  simp only [e, ← EReal.coe_mul, ← coe_sum]
  rfl

end

/-! ## What the first call is given -/

variable {m : (ℓ : Loc nD τ sig) → Buf (Elt Ideal) ℓ} (ρ : Dev nD → PrngReg) {c : Dev nD} {I : Inp} (H : Holds m c I)
include H

theorem v1_x (i : Fin 4096) (k : Fin 512) : (V1 m ρ c main_arg0 : FVec Ideal S4096x512 .f32) (ix2 i k) = ((I.x i k : ℝ) : EReal) :=
  (congrFun (W1_args m ρ c main_arg0 (by decide)) (ix2 i k)).trans (H.x i k)

theorem v1_w (h : Fin 4) (k : Fin 512) (f : Fin 64) : (V1 m ρ c main_v4 : FVec Ideal S4x512x64 .f32) (ix3 h k f) = ((I.W h k f : ℝ) : EReal) :=
  (host0_v4 (W0 m ρ c) h k f).trans (H.W h k f)

theorem v1_al (h : Fin 4) (f : Fin 64) : (V1 m ρ c main_v13 : FVec Ideal S4x64x1 .f32) (ix3 h f 0) = ((I.a h ⟨f.val, by omega⟩ : ℝ) : EReal) :=
  (host0_v13 (W0 m ρ c) h f).trans (H.a h _)

theorem v1_ar (h : Fin 4) (f : Fin 64) : (V1 m ρ c main_v22 : FVec Ideal S4x64x1 .f32) (ix3 h f 0) = ((I.a h ⟨64 + f.val, by omega⟩ : ℝ) : EReal) :=
  (host0_v22 (W0 m ρ c) h f).trans (H.a h _)

/-! ## What it leaves -/

theorem w2_feat : (W2 m ρ c (Proc.devRef .tc main_v36_0) : FVec Ideal S4x4096x64 .bf16) = fun i => ((wh I (i 0) (i 1) (i 2) : ℝ) : EReal) :=
  ((W2_arr m ρ c 4).trans (arr0_4 (V1 m ρ) c)).trans (funext fun i => featG_coe (v1_x ρ H) (v1_w ρ H) _ _ _)

theorem w2_left : (W2 m ρ c (Proc.devRef .tc main_v36_1) : FVec Ideal S4096x4 .f32) = fun i => ((sl I (i 1) (i 0) : ℝ) : EReal) :=
  ((W2_arr m ρ c 5).trans (arr0_5 (V1 m ρ) c)).trans (funext fun i => scoreG_coe (v1_x ρ H) (v1_w ρ H) _ (v1_al ρ H) _ _)

theorem w2_right : (W2 m ρ c (Proc.devRef .tc main_v36_2) : FVec Ideal S4096x4 .f32) = fun i => ((sr I (i 1) (i 0) : ℝ) : EReal) :=
  ((W2_arr m ρ c 6).trans (arr0_6 (V1 m ρ) c)).trans (funext fun i => scoreG_coe (v1_x ρ H) (v1_w ρ H) _ (v1_ar ρ H) _ _)

theorem w2_col : (W2 m ρ c (Proc.devRef .tc main_v36_3) : FVec Ideal S16x4x1x64 .f32) = fun i => ((∑ r : Fin 256, wh I (i 1) (row (i 0) r) (i 3) : ℝ) : EReal) :=
  ((W2_arr m ρ c 7).trans (arr0_7 (V1 m ρ) c)).trans (funext fun i => featG_sum (v1_x ρ H) (v1_w ρ H) _ _ _)

theorem w2_max : (W2 m ρ c (Proc.devRef .tc main_v36_4) : FVec Ideal S16x1x4 .f32) = fun i => Finset.univ.fold max ⊥ (fun r : Fin 256 => ((sr I (i 2) (row (i 0) r) : ℝ) : EReal)) :=
  ((W2_arr m ρ c 8).trans (arr0_8 (V1 m ρ) c)).trans (funext fun i => congrArg (fun g => Finset.univ.fold max ⊥ g)
    (funext fun r => scoreG_coe (v1_x ρ H) (v1_w ρ H) _ (v1_ar ρ H) _ _))

/-! ## What the second call is given -/

theorem v3_b (i j : Fin 4096) : (V3 m ρ c main_arg1 : Vec Ideal S4096x4096 .i32) (ix2 i j) = I.b i j :=
  (congrFun (W3_args m ρ c main_arg1 (by decide)) (ix2 i j)).trans (H.b i j)

theorem v3_feat (h : Fin 4) (i : Fin 4096) (f : Fin 64) : (V3 m ρ c main_v36_0 : FVec Ideal S4x4096x64 .bf16) (ix3 h i f) = ((wh I h i f : ℝ) : EReal) :=
  congrFun ((W3_of m ρ c main_v36_0 (by decide)).trans (w2_feat ρ H)) (ix3 h i f)

theorem v3_left (i : Fin 4096) (h : Fin 4) : (V3 m ρ c main_v36_1 : FVec Ideal S4096x4 .f32) (ix2 i h) = ((sl I h i : ℝ) : EReal) :=
  congrFun ((W3_of m ρ c main_v36_1 (by decide)).trans (w2_left ρ H)) (ix2 i h)

theorem v3_right (h : Fin 4) (j : Fin 4096) : (V3 m ρ c main_v37 : FVec Ideal S4x4096 .f32) (ix2 h j) = ((sr I h j : ℝ) : EReal) :=
  host1_v37 (W2 m ρ c) h j _ (w2_right ρ H)

theorem v3_max (h : Fin 4) : ∃ q : ℝ, (V3 m ρ c main_v38 : FVec Ideal S1x4 .f32) (ix2 0 h) = (q : EReal) := by
  obtain ⟨q, hq⟩ := exists_max_blocks (fun t r => sr I h (row t r))
  exact ⟨q, (host1_v38 (W2 m ρ c) h _ (w2_max ρ H)).trans hq⟩

theorem v3_mean (h : Fin 4) (f : Fin 64) : (V3 m ρ c main_v42 : FVec Ideal S4x64 .f32) (ix2 h f) = (((∑ j, wh I h j f) * (1 / 4096) : ℝ) : EReal) := by
  refine (host1_v42 (W2 m ρ c) h f _ (w2_col ρ H)).trans ?_
  rw [← sum_blocks (fun j => wh I h j f) row (fun t r => rfl), EReal.coe_mul, coe_sum]
  rfl

/-- The output weights, padded. -/
theorem v3_wo (h : Fin 4) (f : Fin 64) (l : Fin 128) : (V3 m ρ c main_v27 : FVec Ideal S4x64x128 .bf16) (ix3 h f l)
    = ((pad (I.Wo ⟨h.val * 64 + f.val, by omega⟩) l : ℝ) : EReal) := by
  refine (congrFun ((W3_of m ρ c main_v27 (by decide)).trans (W2_of m ρ c main_v27 (by decide))) (ix3 h f l)).trans ((host0_v27 (W0 m ρ c) h f l _ rfl).trans ?_)
  unfold Gat.pad
  split
  · exact H.Wo _ _
  · rfl

theorem v3_al (l : Fin 128) : (V3 m ρ c main_v31 : FVec Ideal S128x1 .f32) (ix2 l 0) = ((pad (fun o => I.ao ⟨o.val, by omega⟩) l : ℝ) : EReal) := by
  refine (congrFun ((W3_of m ρ c main_v31 (by decide)).trans (W2_of m ρ c main_v31 (by decide))) (ix2 l 0)).trans ((host0_v31 (W0 m ρ c) l _ rfl).trans ?_)
  unfold Gat.pad
  split
  · exact H.ao _
  · rfl

theorem v3_ar (l : Fin 128) : (V3 m ρ c main_v35 : FVec Ideal S128x1 .f32) (ix2 l 0) = ((pad (fun o => I.ao ⟨121 + o.val, by omega⟩) l : ℝ) : EReal) := by
  refine (congrFun ((W3_of m ρ c main_v35 (by decide)).trans (W2_of m ρ c main_v35 (by decide))) (ix2 l 0)).trans ((host0_v35 (W0 m ρ c) l _ rfl).trans ?_)
  unfold Gat.pad
  split
  · exact H.ao _
  · rfl

/-- The second layer's features, padded. -/
theorem featV_coe (i : Fin 4096) (l : Fin 128) : featV (V3 m ρ) c i l = ((pad (who I i) l : ℝ) : EReal) := by
  choose q hq using v3_max ρ H
  unfold featV outFeat
  have key := fun h => headG_coe (v3_b ρ H) (v3_feat ρ H) (v3_left ρ H) (v3_right ρ H) hq (v3_mean ρ H) (v3_wo ρ H) i l h
  rw [key, key, key, key, ← EReal.coe_add, ← EReal.coe_add, ← EReal.coe_add,
    ← Fin.sum_univ_four (fun h => ∑ f : Fin 64, hid I h i f * pad (I.Wo ⟨h.val * 64 + f.val, by omega⟩) l)]
  congr 1
  unfold Gat.pad who
  split
  · rfl
  · simp

end Cert.KernelIdeal.Value

end
-- ==== Proof.KernelArray2.lean ====
/- What the third kernel call leaves in its result array, as a function of the arrays it was given. -/
module

public import proofs.«01_k».proof.Proof.KernelBlock1

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Gat

/-- Where each window's block stands at grid point `t`. -/
theorem idx2 : ∀ t : Fin cfg2.N, win2_0.index t = ![t.val, 0] ∧ win2_1.index t = ![0, 0] ∧ win2_2.index t = ![t.val, 0] ∧ win2_3.index t = ![0, 0]
    ∧ win2_4.index t = ![0, 0] ∧ win2_5.index t = ![0, 0] ∧ win2_6.index t = ![t.val, 0] :=
  (by decide +kernel : ∀ t : Fin grid2.N, _)

theorem cov2_6 : (cfg2.win 6).Covers := by decide +kernel

variable (V : (c : Dev nD) → (b : Ref sig .tc) → Buf (Elt Ideal) ((c : Thread nD τ).loc b)) (c : Dev nD)

/-- The array of attention rows. -/
theorem arr2_6 : (dat2 V c).arrAt 6 cfg2.N = fun i : S4096x128.Idx =>
    sepRow ((V c main_v43_1 : FVec Ideal S4096x1 .f32) (ix2 (i 0) 0)) ((V c main_v45 : FVec Ideal S1x1 .f32) (ix2 0 0))
      (fun j : Fin 4096 => (V c main_v44 : FVec Ideal S1x4096 .f32) (ix2 0 j)) (fun j => (V c main_v43_0 : FVec Ideal S4096x128 .bf16) (ix2 j (i 1)))
      (fun j => (V c main_arg1 : Vec Ideal S4096x4096 .i32) (ix2 (i 0) j)) ((V c main_v48 : FVec Ideal S1x128 .f32) (ix2 0 (i 1))) := by
  refine (dat2 V c).arrAt_eq_of_covers 6 _ cov2_6 fun t _ y => ?_
  blk_simp
  rw [after2_6]
  idx_vars y
  rw [out2_6_at]
  blk_point [iblk2, idx2 t]

end Cert.KernelIdeal.Value

end
-- ==== Proof.KernelLayer2.lean ====
/- The kernel's second layer at real inputs, and so its result: every entry of the result array is the network's. -/
module

public import proofs.«01_k».proof.Proof.KernelLayer1
public import proofs.«01_k».proof.Proof.KernelArray2

@[expose] public section

set_option maxRecDepth 16384

noncomputable section

open Idealize.ShloMosaic Idealize.ShloMosaic.TcCoe Idealize.SL Idealize.SL.Sem

namespace Cert.KernelIdeal.Value

open Cert.KernelIdeal Cert.KernelIdeal.Gen Cert.Gat

variable {m : (ℓ : Loc nD τ sig) → Buf (Elt Ideal) ℓ} (ρ : Dev nD → PrngReg) {c : Dev nD} {I : Inp} (H : Holds m c I)
include H

/-! ## What the second call leaves -/

/-- A score of the second layer is a product with the features alone, the padding adding nothing. -/
theorem scoreV_coe (a : FVec Ideal S128x1 .f32) (k : Fin 121 → ℝ) (ha : ∀ l, a (ix2 l 0) = ((Gat.pad k l : ℝ) : EReal)) (i : Fin 4096) :
    scoreV (V3 m ρ) c a i = ((∑ o : Fin 121, who I i o * k o : ℝ) : EReal) := by
  unfold scoreV
  simp only [featV_coe ρ H, ha, ← EReal.coe_mul, ← coe_sum, sum_pad]

theorem w4_feat : (W4 m ρ c (Proc.devRef .tc main_v43_0) : FVec Ideal S4096x128 .bf16) = fun i => ((Gat.pad (who I (i 0)) (i 1) : ℝ) : EReal) :=
  ((W4_arr m ρ c 9).trans (arr1_9 (V3 m ρ) c)).trans (funext fun i => featV_coe ρ H _ _)

theorem w4_left : (W4 m ρ c (Proc.devRef .tc main_v43_1) : FVec Ideal S4096x1 .f32) = fun i => ((ol I (i 0) : ℝ) : EReal) :=
  ((W4_arr m ρ c 10).trans (arr1_10 (V3 m ρ) c)).trans (funext fun i => scoreV_coe ρ H _ _ (v3_al ρ H) _)

theorem w4_right : (W4 m ρ c (Proc.devRef .tc main_v43_2) : FVec Ideal S4096x1 .f32) = fun i => ((orr I (i 0) : ℝ) : EReal) :=
  ((W4_arr m ρ c 11).trans (arr1_11 (V3 m ρ) c)).trans (funext fun i => scoreV_coe ρ H _ _ (v3_ar ρ H) _)

theorem colV_coe (s : Fin 16) (l : Fin 128) : colV (V3 m ρ) c s l = ((∑ r : Fin 256, Gat.pad (who I (row s r)) l : ℝ) : EReal) := by
  unfold colV
  simp only [featV_coe ρ H, ← coe_sum]
  rfl

theorem w4_col : (W4 m ρ c (Proc.devRef .tc main_v43_3) : FVec Ideal S16x1x128 .f32) = fun i => ((∑ r : Fin 256, Gat.pad (who I (row (i 0) r)) (i 2) : ℝ) : EReal) :=
  ((W4_arr m ρ c 12).trans (arr1_12 (V3 m ρ) c)).trans (funext fun i => colV_coe ρ H _ _)

theorem maxV_coe (s : Fin 16) : maxV (V3 m ρ) c (V3 m ρ c main_v35) s = Finset.univ.fold max ⊥ (fun r : Fin 256 => ((orr I (row s r) : ℝ) : EReal)) := by
  unfold maxV
  exact congrArg (fun g => Finset.univ.fold max ⊥ g) (funext fun r => scoreV_coe ρ H _ _ (v3_ar ρ H) _)

theorem w4_max : (W4 m ρ c (Proc.devRef .tc main_v43_4) : FVec Ideal S16x1x1 .f32) = fun i => Finset.univ.fold max ⊥ (fun r : Fin 256 => ((orr I (row (i 0) r) : ℝ) : EReal)) :=
  ((W4_arr m ρ c 13).trans (arr1_13 (V3 m ρ) c)).trans (funext fun i => maxV_coe ρ H _)

/-! ## What the third call is given -/

theorem v5_b (i j : Fin 4096) : (V5 m ρ c main_arg1 : Vec Ideal S4096x4096 .i32) (ix2 i j) = I.b i j :=
  (congrFun (W5_args m ρ c main_arg1 (by decide)) (ix2 i j)).trans (H.b i j)

theorem v5_feat (i : Fin 4096) (l : Fin 128) : (V5 m ρ c main_v43_0 : FVec Ideal S4096x128 .bf16) (ix2 i l) = ((Gat.pad (who I i) l : ℝ) : EReal) :=
  congrFun ((W5_of m ρ c main_v43_0 (by decide)).trans (w4_feat ρ H)) (ix2 i l)

theorem v5_left (i : Fin 4096) : (V5 m ρ c main_v43_1 : FVec Ideal S4096x1 .f32) (ix2 i 0) = ((ol I i : ℝ) : EReal) :=
  congrFun ((W5_of m ρ c main_v43_1 (by decide)).trans (w4_left ρ H)) (ix2 i 0)

theorem v5_right (j : Fin 4096) : (V5 m ρ c main_v44 : FVec Ideal S1x4096 .f32) (ix2 0 j) = ((orr I j : ℝ) : EReal) :=
  host2_v44 (W4 m ρ c) j _ (w4_right ρ H)

theorem v5_max : ∃ q : ℝ, (V5 m ρ c main_v45 : FVec Ideal S1x1 .f32) (ix2 0 0) = (q : EReal) := by
  obtain ⟨q, hq⟩ := exists_max_blocks (fun t r => orr I (row t r))
  exact ⟨q, (host2_v45 (W4 m ρ c) _ (w4_max ρ H)).trans hq⟩

theorem v5_mean (l : Fin 128) : (V5 m ρ c main_v48 : FVec Ideal S1x128 .f32) (ix2 0 l) = (((∑ j, Gat.pad (who I j) l) * (1 / 4096) : ℝ) : EReal) := by
  refine (host2_v48 (W4 m ρ c) l _ (w4_col ρ H)).trans ?_
  rw [← sum_blocks (fun j => Gat.pad (who I j) l) row (fun t r => rfl), EReal.coe_mul, coe_sum]
  rfl

/-! ## The result -/

theorem w6_out : (W6 m ρ c (Proc.devRef .tc main_v49) : FVec Ideal S4096x128 .f32) = fun i =>
    ((gatRow (I.b (i 0)) (ol I (i 0)) (fun j => orr I j) (fun j => Gat.pad (who I j) (i 1)) ((∑ j, Gat.pad (who I j) (i 1)) * (1 / 4096)) : ℝ) : EReal) := by
  obtain ⟨q, hq⟩ := v5_max ρ H
  refine ((W6_arr m ρ c 6).trans (arr2_6 (V5 m ρ) c)).trans (funext fun i => ?_)
  refine Eq.trans ?_ (sepRow_coe (ol I (i 0)) q (fun j => orr I j) (fun j => Gat.pad (who I j) (i 1)) (I.b (i 0)) ((∑ j, Gat.pad (who I j) (i 1)) * (1 / 4096)))
  refine sepRow_congr (v5_left ρ H _) hq (v5_right ρ H) (fun j => v5_feat ρ H j _) (fun j => v5_b ρ H _ j) (v5_mean ρ H _)

/-- Every entry of the kernel's result is the network's. -/
theorem kernel_out (i : Fin 4096) (o : Fin 121) : (W7 m ρ c (Proc.devRef .tc main_v50) : FVec Ideal S4096x121 .f32) (ix2 i o) = ((out I i o : ℝ) : EReal) := by
  have e : ∀ j, Gat.pad (who I j) ⟨o.val, by omega⟩ = who I j o := fun j => by unfold Gat.pad; rw [dif_pos o.isLt]
  refine (host3_v50 (W6 m ρ c) i o _ (w6_out ρ H)).trans ?_
  show ((gatRow (I.b i) (ol I i) (fun j => orr I j) (fun j => Gat.pad (who I j) ⟨o.val, _⟩) ((∑ j, Gat.pad (who I j) ⟨o.val, _⟩) * (1 / 4096)) : ℝ) : EReal) = _
  simp only [e]
  rfl

end Cert.KernelIdeal.Value

end
-- ==== Proof.RefAttn.lean ====
/- The reference's attention, from the array of its raw scores: the rectifier, the mask, the softmax along a row, and the
   uniform weights of a row with no neighbour. -/
module

public import proofs.«01_k».proof.Proof.GatSpec
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen Cert.Gat

/-- The word of minus infinity reads as the least extended real. -/
theorem ninf_eq : Ideal.ofBits .f32 4286578688#32 = ⊥ := by
  simp [Ideal.ofBits, Ideal.ieee]

/-- The rectified scores, masked. -/
def masked (e : FVec Ideal S4096x4096 .f32) (b : Vec Ideal S4096x4096 .i32) : FVec Ideal S4096x4096 .f32 :=
  select (cmpi .sgt b (broadcastInDim S4096x4096 ![] bcast_S_S4096x4096 (constantI S_ 32 0#32)))
    (select (cmpf .ogt e (broadcastInDim S4096x4096 ![] bcast_S_S4096x4096 (constant S_ .f32 0x00000000#32))) e
      (mulf (broadcastInDim S4096x4096 ![] bcast_S_S4096x4096 (constant S_ .f32 0x3E4CCCCD#32)) e))
    (broadcastInDim S4096x4096 ![] bcast_S_S4096x4096 (id (constant S_ .f32 0xFF800000#32)))

/-- A row's maximum. -/
def rowMax (s : FVec Ideal S4096x4096 .f32) : FVec Ideal S4096 .f32 :=
  Host.reduce FloatOps.maximumf s (constant S_ .f32 0xFF800000#32) reducesTo_S4096x4096_S4096_d1 h_S_

/-- A row's maximum, taken once more with minus infinity. -/
def rowTop (s : FVec Ideal S4096x4096 .f32) : FVec Ideal S4096 .f32 :=
  maximumf (broadcastInDim S4096 ![] bcast_S_S4096 (constant S_ .f32 0xFF800000#32)) (rowMax s)

/-- A row's sum. -/
def rowSum (s : FVec Ideal S4096x4096 .f32) : FVec Ideal S4096 .f32 :=
  Host.reduceAdd s (constant S_ .f32 0x00000000#32) reducesTo_S4096x4096_S4096_d1 h_S_

/-- Whether a row has a neighbour. -/
def rowAny (b : Vec Ideal S4096x4096 .i32) : Vec Ideal S4096 .i1 :=
  Host.reduce IntOp.ori (cmpi .sgt b (broadcastInDim S4096x4096 ![] bcast_S_S4096x4096 (constantI S_ 32 0#32))) (constantI S_ 1 0#1) reducesTo_S4096x4096_S4096_d1 h_S_

/-- A row's entries, each turned into the exponential of its distance from the row's maximum. -/
def expo (s : FVec Ideal S4096x4096 .f32) : FVec Ideal S4096x4096 .f32 :=
  Host.exp (subf s (broadcastInDim S4096x4096 ![0, 1] bcast_S4096x1_S4096x4096_0_1 (broadcastInDim S4096x1 ![0] bcast_S4096_S4096x1_0 (rowTop s))))

/-- The attention's weights. -/
def attn (e : FVec Ideal S4096x4096 .f32) (b : Vec Ideal S4096x4096 .i32) : FVec Ideal S4096x4096 .f32 :=
  select (broadcastInDim S4096x4096 ![0, 1] bcast_S4096x1_S4096x4096_0_1 (broadcastInDim S4096x1 ![0] bcast_S4096_S4096x1_0 (rowAny b)))
    (Host.divf (expo (masked e b)) (broadcastInDim S4096x4096 ![0, 1] bcast_S4096x1_S4096x4096_0_1 (broadcastInDim S4096x1 ![0] bcast_S4096_S4096x1_0 (rowSum (expo (masked e b))))))
    (broadcastInDim S4096x4096 ![] bcast_S_S4096x4096 (id (constant S_ .f32 0x39800000#32)))

/-- A masked score: minus infinity where there is no edge. -/
theorem masked_at (e : FVec Ideal S4096x4096 .f32) (b : Vec Ideal S4096x4096 .i32) (i j : Fin 4096) :
    masked e b (ix2 i j) = if on (b (ix2 i j)) then (if 0 < e (ix2 i j) then e (ix2 i j) else Ideal.ofBits .f32 1045220557#32 * e (ix2 i j)) else ⊥ := by
  pointwise [masked]
  rw [id, show (constant S_ .f32 4286578688#32 : FVec Ideal S_ .f32) ix0 = ⊥ from ninf_eq]
  show Scalar.select (BitVec.ofBool ((0#32).slt (b (ix2 i j)))) _ _ = _
  unfold on
  cases (0#32).slt (b (ix2 i j)) <;> rfl

/-- A row's maximum is the maximum of its entries. -/
theorem rowMax_at (s : FVec Ideal S4096x4096 .f32) (i : Fin 4096) :
    rowMax s (ix1 i) = Finset.univ.fold max ⊥ (fun j : Fin 4096 => s (ix2 i j)) := by
  pointwise [rowMax]
  rw [ninf_eq]

/-- A row's sum is the sum of its entries. -/
theorem rowSum_at (s : FVec Ideal S4096x4096 .f32) (i : Fin 4096) :
    rowSum s (ix1 i) = ∑ j : Fin 4096, s (ix2 i j) := by
  pointwise [rowSum]

/-- Whether a row has a neighbour: its edges' bits, or-ed. -/
theorem rowAny_at (b : Vec Ideal S4096x4096 .i32) (i : Fin 4096) :
    rowAny b (ix1 i) = Finset.univ.fold IntOp.ori (0#1) (fun j : Fin 4096 => IntOp.cmpi .sgt (b (ix2 i j)) 0#32) := by
  pointwise [rowAny]

/-- A scalar spread over the rows is that scalar at each. -/
theorem spread_at (y : FVec Ideal S_ .f32) (i : Fin 4096) : (broadcastInDim S4096 ![] bcast_S_S4096 y : FVec Ideal S4096 .f32) (ix1 i) = y ix0 :=
  broadcastInDim_apply _ bcast_S_S4096 y (ix1 i) ix0 (fun a => a.elim0)

/-- A maximum with minus infinity is the other operand. -/
theorem top_of (A B : FVec Ideal S4096 .f32) (i : Fin 4096) (h : A (ix1 i) = ⊥) : maximumf A B (ix1 i) = B (ix1 i) :=
  (congrArg (fun z : EReal => max z (B (ix1 i) : EReal)) h).trans (max_eq_right bot_le)

/-- The second maximum changes nothing. -/
theorem rowTop_at (s : FVec Ideal S4096x4096 .f32) (i : Fin 4096) : rowTop s (ix1 i) = rowMax s (ix1 i) :=
  top_of _ _ i ((spread_at _ i).trans ninf_eq)

/-- An entry's exponential. -/
theorem expo_at (s : FVec Ideal S4096x4096 .f32) (i j : Fin 4096) :
    expo s (ix2 i j) = Ideal.exp (s (ix2 i j) - rowTop s (ix1 i)) := by
  unfold expo
  generalize rowTop s = M
  pointwise []

/-- A weight: the softmax where the row has a neighbour, 1/4096 where it has none. -/
theorem attn_at (e : FVec Ideal S4096x4096 .f32) (b : Vec Ideal S4096x4096 .i32) (i j : Fin 4096) :
    attn e b (ix2 i j) = Scalar.select (rowAny b (ix1 i)) (Ideal.div (expo (masked e b) (ix2 i j)) (rowSum (expo (masked e b)) (ix1 i))) (((1 / 4096 : ℝ) : EReal)) := by
  unfold attn
  generalize rowAny b = M
  generalize expo (masked e b) = E
  generalize rowSum E = R
  pointwise []
  rw [id, show (constant S_ .f32 964689920#32 : FVec Ideal S_ .f32) ix0 = _ from inv_eq]

/-- The first head's weights are `attn` of its raw scores. -/
theorem v32_eq (x0 : FVec Ideal S4096x512 .f32) (x1 : Vec Ideal S4096x4096 .i32) (x2 : FVec Ideal S512x64 .f32) (x3 : FVec Ideal S128x1 .f32) :
    Read.val_main_v32 (F := Ideal) x0 x1 x2 x3 = attn (Read.val_main_v8 (F := Ideal) x0 x2 x3) x1 := rfl

end Cert.ReferenceIdeal.Layer

end
-- ==== Proof.RefRow.lean ====
/- One row of the reference's attention applied to a column of real features: `gatRow`. -/
module

public import proofs.«01_k».proof.Proof.RefAttn

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen Cert.Gat

/-- Bits or-ed together: whether one of them is set. -/
theorem fold_or {J : Type} (s : Finset J) (p : J → Bool) :
    s.fold IntOp.ori (0#1) (fun j => BitVec.ofBool (p j)) = BitVec.ofBool (decide (∃ j ∈ s, p j = true)) := by
  classical
  induction s using Finset.induction_on with
  | empty => simp
  | insert a s ha ih =>
    rw [Finset.fold_insert ha, ih]
    have h : decide (∃ j ∈ insert a s, p j = true) = (p a || decide (∃ j ∈ s, p j = true)) := by
      simp [Finset.exists_mem_insert, Bool.decide_or]
    rw [h]
    cases p a <;> cases decide (∃ j ∈ s, p j = true) <;> rfl

/-- A row has a neighbour when one of its words is an edge. -/
theorem rowAny_eq (b : Vec Ideal S4096x4096 .i32) (i : Fin 4096) :
    rowAny b (ix1 i) = BitVec.ofBool (decide (∃ j : Fin 4096, on (b (ix2 i j)) = true)) := by
  refine (rowAny_at b i).trans ((fold_or Finset.univ (fun j : Fin 4096 => on (b (ix2 i j)))).trans ?_)
  simp

/-- A masked real score. -/
theorem masked_coe (e : FVec Ideal S4096x4096 .f32) (b : Vec Ideal S4096x4096 .i32) (i j : Fin 4096) (el er : ℝ) (h : e (ix2 i j) = ((el + er : ℝ) : EReal)) :
    masked e b (ix2 i j) = score el er (b (ix2 i j)) := by
  rw [masked_at, h, slope_eq]
  unfold score
  split
  · rw [← leaky_eq, ← EReal.coe_mul]
    simp only [EReal.coe_pos]
    split <;> rfl
  · rfl

/-- One row of the attention, applied to a real column. -/
theorem attn_row (e : FVec Ideal S4096x4096 .f32) (b : Vec Ideal S4096x4096 .i32) (i : Fin 4096) (el : ℝ) (er w : Fin 4096 → ℝ)
    (h : ∀ j, e (ix2 i j) = ((el + er j : ℝ) : EReal)) :
    ∑ j : Fin 4096, attn e b (ix2 i j) * ((w j : ℝ) : EReal) = ((gatRow (fun j => b (ix2 i j)) el er w ((∑ j, w j) * (1 / 4096)) : ℝ) : EReal) := by
  have hm : ∀ j, masked e b (ix2 i j) = score el (er j) (b (ix2 i j)) := fun j => masked_coe e b i j el (er j) (h j)
  unfold gatRow
  by_cases hn : ∃ j : Fin 4096, on (b (ix2 i j)) = true
  · obtain ⟨M, hM⟩ := score_max (fun j => b (ix2 i j)) el er hn
    have hx : ∀ j, expo (masked e b) (ix2 i j) = Ideal.exp (score el (er j) (b (ix2 i j)) - (M : EReal)) := fun j => by
      rw [expo_at, rowTop_at, rowMax_at, hm]
      simp only [hm, hM]
    rw [if_pos hn, ← soft_coe (fun j => b (ix2 i j)) el er w hn M]
    refine Finset.sum_congr rfl fun j _ => ?_
    rw [attn_at, rowAny_eq, decide_eq_true hn, rowSum_at]
    simp only [hx]
    rfl
  · rw [if_neg hn]
    have ha : ∀ j, attn e b (ix2 i j) = ((1 / 4096 : ℝ) : EReal) := fun j => by
      rw [attn_at, rowAny_eq, decide_eq_false hn]
      rfl
    simp only [ha, ← EReal.coe_mul, ← coe_sum, mul_comm (1 / 4096 : ℝ)]
    rw [← Finset.sum_mul]

end Cert.ReferenceIdeal.Layer

end
-- ==== Proof.RefHead.lean ====
/- The reference's heads at real inputs: one head's features, raw scores and output; the other three are the same
   function of their own weights. -/
module

public import proofs.«01_k».proof.Proof.RefRow

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen Cert.Gat

/-- The word of one reads as one. -/
theorem one_word : Ideal.ofBits .f32 1065353216#32 = 1 := by
  simp [Ideal.ofBits, Ideal.ieee]
  rw [← EReal.coe_mul]
  norm_num

/-- The reference's exponential linear unit of a real. -/
theorem elu_word (z : ℝ) :
    Scalar.select (FloatOps.cmpf (F := Ideal) (φ := .f32) .ogt ((z : ℝ) : EReal) (FloatOps.ofBits (F := Ideal) .f32 0#32)) (((z : ℝ) : EReal) : Ideal .f32)
      (FloatOps.mulf (F := Ideal) (φ := .f32) (FloatOps.ofBits (F := Ideal) .f32 1065353216#32)
        (FloatOps.hostUnary (F := Ideal) (φ := .f32) .expm1
          (Scalar.select (FloatOps.cmpf (F := Ideal) (φ := .f32) .ogt ((z : ℝ) : EReal) (FloatOps.ofBits (F := Ideal) .f32 0#32)) (FloatOps.ofBits (F := Ideal) .f32 0#32) (((z : ℝ) : EReal) : Ideal .f32))))
      = ((elu z : ℝ) : EReal) := by
  rw [← elu_coe]
  show Scalar.select (BitVec.ofBool (decide (Ideal.ofBits .f32 0#32 < (z : EReal)))) (z : EReal)
    (Ideal.ofBits .f32 1065353216#32 * (Ideal.exp (Scalar.select (BitVec.ofBool (decide (Ideal.ofBits .f32 0#32 < (z : EReal)))) (Ideal.ofBits .f32 0#32) (z : EReal)) - 1)) = _
  rw [one_word, Ideal.ofBits_zero_f32]
  by_cases h : (0 : EReal) < (z : EReal)
  · rw [decide_eq_true h, if_pos h]
    rfl
  · rw [decide_eq_false h, if_neg h]
    exact one_mul (Ideal.exp (z : EReal) - 1)

/-- A head's features. -/
theorem v0_at (x0 : FVec Ideal S4096x512 .f32) (x2 : FVec Ideal S512x64 .f32) (i : Fin 4096) (f : Fin 64) :
    Read.val_main_v0 (F := Ideal) x0 x2 (ix2 i f) = ∑ k : Fin 512, x0 (ix2 i k) * x2 (ix2 k f) := by
  pointwise [Read.val_main_v0]

/-- A head's raw scores, from its features. -/
theorem v8_at (x0 : FVec Ideal S4096x512 .f32) (x2 : FVec Ideal S512x64 .f32) (x3 : FVec Ideal S128x1 .f32) (w : FVec Ideal S4096x64 .f32)
    (hw : Read.val_main_v0 (F := Ideal) x0 x2 = w) (i j : Fin 4096) :
    Read.val_main_v8 (F := Ideal) x0 x2 x3 (ix2 i j) = ∑ f : Fin 64, w (ix2 i f) * x3 (ix2 ⟨f.val, by omega⟩ 0) + ∑ f : Fin 64, w (ix2 j f) * x3 (ix2 ⟨64 + f.val, by omega⟩ 0) := by
  unfold Read.val_main_v8 Read.val_main_v7 Read.val_main_v6 Read.val_main_v5 Read.val_main_v2 Read.val_main_v4
  rw [hw]
  pointwise [Read.val_main_v1, Read.val_main_v3]

/-- A head's output before the exponential linear unit, from its weights and features. -/
theorem v33_at (x0 : FVec Ideal S4096x512 .f32) (x1 : Vec Ideal S4096x4096 .i32) (x2 : FVec Ideal S512x64 .f32) (x3 : FVec Ideal S128x1 .f32)
    (w : FVec Ideal S4096x64 .f32) (hw : Read.val_main_v0 (F := Ideal) x0 x2 = w) (i : Fin 4096) (f : Fin 64) :
    Read.val_main_v33 (F := Ideal) x0 x1 x2 x3 (ix2 i f) = ∑ j : Fin 4096, attn (Read.val_main_v8 (F := Ideal) x0 x2 x3) x1 (ix2 i j) * w (ix2 j f) := by
  unfold Read.val_main_v33
  rw [hw, v32_eq]
  generalize attn (Read.val_main_v8 (F := Ideal) x0 x2 x3) x1 = t
  pointwise []

/-- The exponential linear unit at the end of a head. -/
theorem v34_at (x0 : FVec Ideal S4096x512 .f32) (x1 : Vec Ideal S4096x4096 .i32) (x2 : FVec Ideal S512x64 .f32) (x3 : FVec Ideal S128x1 .f32) (i : S4096x64.Idx) (z : ℝ)
    (h : Read.val_main_v33 (F := Ideal) x0 x1 x2 x3 i = ((z : ℝ) : EReal)) :
    Read.val_main_v34 (F := Ideal) x0 x1 x2 x3 i = ((elu z : ℝ) : EReal) := by
  rw [Read.val_main_v34_apply, Read.val_main_call3_v1_apply, Read.val_main_call3_v7_apply, Read.val_main_call3_v5_apply, Read.val_main_call3_v4_apply, Read.val_main_call3_v3_apply,
    Read.val_main_call3_v0_apply, Read.val_main_call3_v2_apply, Read.val_main_call3_v6_apply, Read.val_main_call3_call0_v1_apply, Read.val_main_call3_call0_v0_apply,
    Read.val_main_call3_cst_apply, Read.val_main_call3_cst_0_apply, Read.val_main_call3_cst_1_apply, Read.val_main_call3_cst_2_apply, h]
  exact elu_word z

section
variable {I : Inp} {x0 : FVec Ideal S4096x512 .f32} {x1 : Vec Ideal S4096x4096 .i32} {x2 : FVec Ideal S512x64 .f32} {x3 : FVec Ideal S128x1 .f32} (h : Fin 4)
  (hx : ∀ i k, x0 (ix2 i k) = ((I.x i k : ℝ) : EReal)) (hb : ∀ i j, x1 (ix2 i j) = I.b i j)
  (hw : ∀ k f, x2 (ix2 k f) = ((I.W h k f : ℝ) : EReal)) (ha : ∀ k, x3 (ix2 k 0) = ((I.a h k : ℝ) : EReal))
include hx hw

/-- A head's features are the network's. -/
theorem feat_coe (i : Fin 4096) (f : Fin 64) : Read.val_main_v0 (F := Ideal) x0 x2 (ix2 i f) = ((wh I h i f : ℝ) : EReal) := by
  rw [v0_at]
  unfold wh
  simp only [hx, hw, ← EReal.coe_mul, ← coe_sum]

include ha
/-- A head's raw scores are the network's. -/
theorem raw_coe (i j : Fin 4096) : Read.val_main_v8 (F := Ideal) x0 x2 x3 (ix2 i j) = ((sl I h i + sr I h j : ℝ) : EReal) := by
  rw [v8_at x0 x2 x3 _ rfl]
  unfold sl sr
  simp only [feat_coe h hx hw, ha, ← EReal.coe_mul, ← coe_sum, ← EReal.coe_add]

include hb
/-- A head's output is the network's. -/
theorem head_coe (i : Fin 4096) (f : Fin 64) : Read.val_main_v34 (F := Ideal) x0 x1 x2 x3 (ix2 i f) = ((hid I h i f : ℝ) : EReal) := by
  unfold hid
  refine v34_at x0 x1 x2 x3 _ _ ((v33_at x0 x1 x2 x3 _ rfl i f).trans ?_)
  simp only [feat_coe h hx hw]
  refine (attn_row _ x1 i (sl I h i) (fun j => sr I h j) (fun j => wh I h j f) (raw_coe h hx hw ha i)).trans ?_
  rw [show (fun j => x1 (ix2 i j)) = I.b i from funext (hb i)]

end

theorem v69_eq (x0 : FVec Ideal S4096x512 .f32) (x1 : Vec Ideal S4096x4096 .i32) (x2 : FVec Ideal S512x64 .f32) (x3 : FVec Ideal S128x1 .f32) :
    Read.val_main_v69 (F := Ideal) x0 x1 x2 x3 = Read.val_main_v34 (F := Ideal) x0 x1 x2 x3 := rfl
theorem v104_eq (x0 : FVec Ideal S4096x512 .f32) (x1 : Vec Ideal S4096x4096 .i32) (x2 : FVec Ideal S512x64 .f32) (x3 : FVec Ideal S128x1 .f32) :
    Read.val_main_v104 (F := Ideal) x0 x1 x2 x3 = Read.val_main_v34 (F := Ideal) x0 x1 x2 x3 := rfl
theorem v139_eq (x0 : FVec Ideal S4096x512 .f32) (x1 : Vec Ideal S4096x4096 .i32) (x2 : FVec Ideal S512x64 .f32) (x3 : FVec Ideal S128x1 .f32) :
    Read.val_main_v139 (F := Ideal) x0 x1 x2 x3 = Read.val_main_v34 (F := Ideal) x0 x1 x2 x3 := rfl

end Cert.ReferenceIdeal.Layer

end
-- ==== Proof.RefOut.lean ====
/- The reference's output layer at real inputs, and so its result: every entry is the network's. -/
module

public import proofs.«01_k».proof.Proof.RefHead

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen Cert.Gat

/-- One of four. -/
def among {α : Type} (a b c d : α) : Fin 4 → α
  | 0 => a
  | 1 => b
  | 2 => c
  | 3 => d

/-- One of four arrays of reals, at an index. -/
theorem among_coe (A B C D : FVec Ideal S4096x64 .f32) (g : Fin 4 → ℝ) (y : S4096x64.Idx) (h : Fin 4) (h0 : A y = ((g 0 : ℝ) : EReal)) (h1 : B y = ((g 1 : ℝ) : EReal))
    (h2 : C y = ((g 2 : ℝ) : EReal)) (h3 : D y = ((g 3 : ℝ) : EReal)) : among A B C D h y = ((g h : ℝ) : EReal) := by
  fin_cases h
  · exact h0
  · exact h1
  · exact h2
  · exact h3

/-- The four heads' outputs side by side: column `64 h + f` is head `h`'s column `f`. -/
theorem joined_at (A B C D : FVec Ideal S4096x64 .f32) (i : Fin 4096) (h : Fin 4) (f : Fin 64) :
    (concatenate S4096x256 1 [⟨S4096x64, A⟩, ⟨S4096x64, B⟩, ⟨S4096x64, C⟩, ⟨S4096x64, D⟩] concatenates_S4096x64_S4096x64_S4096x64_S4096x64_S4096x256_d1 : FVec Ideal S4096x256 .f32)
      (ix2 i ⟨h.val * 64 + f.val, by omega⟩) = among A B C D h (ix2 i f) := by
  pointwise []
  have hf := f.isLt
  fin_cases h
  · rw [dif_pos (show 0 * 64 + f.val < 64 by omega)]
    exact congrArg A (congrArg (ix2 i) (Fin.ext (show 0 * 64 + f.val = f.val by omega)))
  · rw [dif_neg (show ¬ 1 * 64 + f.val < 64 by omega), dif_pos (show 1 * 64 + f.val - 64 < 64 by omega)]
    exact congrArg B (congrArg (ix2 i) (Fin.ext (show 1 * 64 + f.val - 64 = f.val by omega)))
  · rw [dif_neg (show ¬ 2 * 64 + f.val < 64 by omega), dif_neg (show ¬ 2 * 64 + f.val - 64 < 64 by omega), dif_pos (show 2 * 64 + f.val - 64 - 64 < 64 by omega)]
    exact congrArg C (congrArg (ix2 i) (Fin.ext (show 2 * 64 + f.val - 64 - 64 = f.val by omega)))
  · rw [dif_neg (show ¬ 3 * 64 + f.val < 64 by omega), dif_neg (show ¬ 3 * 64 + f.val - 64 < 64 by omega), dif_neg (show ¬ 3 * 64 + f.val - 64 - 64 < 64 by omega)]
    exact congrArg D (congrArg (ix2 i) (Fin.ext (show 3 * 64 + f.val - 64 - 64 - 64 = f.val by omega)))

/-- A sum over 256 columns, head by head. -/
theorem sum_heads (g : Fin 256 → EReal) : ∑ k, g k = ∑ h : Fin 4, ∑ f : Fin 64, g ⟨h.val * 64 + f.val, by omega⟩ := by
  rw [← Fintype.sum_prod_type', ← Equiv.sum_comp (finProdFinEquiv (m := 4) (n := 64)) g]
  refine Finset.sum_congr rfl fun p _ => congrArg g (Fin.ext ?_)
  show p.2.val + 64 * p.1.val = p.1.val * 64 + p.2.val
  omega

/-- The output layer's product, over any joined array. -/
theorem proj_at (J : FVec Ideal S4096x256 .f32) (x10 : FVec Ideal S256x121 .f32) (i : Fin 4096) (o : Fin 121) :
    Host.dotGeneral dot_S4096x256_S256x121_S4096x121_1_0_0_1_n_n none J x10 (ix2 i o) = ∑ k : Fin 256, J (ix2 i k) * x10 (ix2 k o) := by
  pointwise []

section
variable (x0 : FVec Ideal S4096x512 .f32) (x1 : Vec Ideal S4096x4096 .i32) (x2 : FVec Ideal S512x64 .f32) (x3 : FVec Ideal S128x1 .f32)
  (x4 : FVec Ideal S512x64 .f32) (x5 : FVec Ideal S128x1 .f32) (x6 : FVec Ideal S512x64 .f32) (x7 : FVec Ideal S128x1 .f32)
  (x8 : FVec Ideal S512x64 .f32) (x9 : FVec Ideal S128x1 .f32) (x10 : FVec Ideal S256x121 .f32) (x11 : FVec Ideal S242x1 .f32)

/-- The output layer's raw scores, from its features. -/
theorem v149_at (w : FVec Ideal S4096x121 .f32) (hw : Read.val_main_v141 (F := Ideal) x0 x1 x2 x3 x4 x5 x6 x7 x8 x9 x10 = w) (i j : Fin 4096) :
    Read.val_main_v149 (F := Ideal) x0 x1 x2 x3 x4 x5 x6 x7 x8 x9 x10 x11 (ix2 i j)
      = ∑ o : Fin 121, w (ix2 i o) * x11 (ix2 ⟨o.val, by omega⟩ 0) + ∑ o : Fin 121, w (ix2 j o) * x11 (ix2 ⟨121 + o.val, by omega⟩ 0) := by
  unfold Read.val_main_v149 Read.val_main_v148 Read.val_main_v147 Read.val_main_v146 Read.val_main_v143 Read.val_main_v145
  rw [hw]
  pointwise [Read.val_main_v142, Read.val_main_v144]

theorem v173_eq : Read.val_main_v173 (F := Ideal) x0 x1 x2 x3 x4 x5 x6 x7 x8 x9 x10 x11
    = attn (Read.val_main_v149 (F := Ideal) x0 x1 x2 x3 x4 x5 x6 x7 x8 x9 x10 x11) x1 := rfl

/-- The result, from the output layer's weights and features. -/
theorem v174_at (w : FVec Ideal S4096x121 .f32) (hw : Read.val_main_v141 (F := Ideal) x0 x1 x2 x3 x4 x5 x6 x7 x8 x9 x10 = w) (i : Fin 4096) (o : Fin 121) :
    Read.val_main_v174 (F := Ideal) x0 x1 x2 x3 x4 x5 x6 x7 x8 x9 x10 x11 (ix2 i o)
      = ∑ j : Fin 4096, attn (Read.val_main_v149 (F := Ideal) x0 x1 x2 x3 x4 x5 x6 x7 x8 x9 x10 x11) x1 (ix2 i j) * w (ix2 j o) := by
  unfold Read.val_main_v174
  rw [hw, v173_eq]
  generalize attn (Read.val_main_v149 (F := Ideal) x0 x1 x2 x3 x4 x5 x6 x7 x8 x9 x10 x11) x1 = t
  pointwise []

variable {I : Inp} {x0 x1 x2 x3 x4 x5 x6 x7 x8 x9 x10 x11}
  (hx : ∀ i k, x0 (ix2 i k) = ((I.x i k : ℝ) : EReal)) (hb : ∀ i j, x1 (ix2 i j) = I.b i j)
  (hw0 : ∀ k f, x2 (ix2 k f) = ((I.W 0 k f : ℝ) : EReal)) (ha0 : ∀ k, x3 (ix2 k 0) = ((I.a 0 k : ℝ) : EReal))
  (hw1 : ∀ k f, x4 (ix2 k f) = ((I.W 1 k f : ℝ) : EReal)) (ha1 : ∀ k, x5 (ix2 k 0) = ((I.a 1 k : ℝ) : EReal))
  (hw2 : ∀ k f, x6 (ix2 k f) = ((I.W 2 k f : ℝ) : EReal)) (ha2 : ∀ k, x7 (ix2 k 0) = ((I.a 2 k : ℝ) : EReal))
  (hw3 : ∀ k f, x8 (ix2 k f) = ((I.W 3 k f : ℝ) : EReal)) (ha3 : ∀ k, x9 (ix2 k 0) = ((I.a 3 k : ℝ) : EReal))
  (hWo : ∀ k o, x10 (ix2 k o) = ((I.Wo k o : ℝ) : EReal)) (hao : ∀ k, x11 (ix2 k 0) = ((I.ao k : ℝ) : EReal))
include hx hb hw0 ha0 hw1 ha1 hw2 ha2 hw3 ha3

/-- The four heads' outputs are the network's. -/
theorem heads_coe (i : Fin 4096) (h : Fin 4) (f : Fin 64) :
    among (Read.val_main_v34 (F := Ideal) x0 x1 x2 x3) (Read.val_main_v69 (F := Ideal) x0 x1 x4 x5) (Read.val_main_v104 (F := Ideal) x0 x1 x6 x7)
      (Read.val_main_v139 (F := Ideal) x0 x1 x8 x9) h (ix2 i f) = ((hid I h i f : ℝ) : EReal) :=
  among_coe _ _ _ _ (fun h => hid I h i f) (ix2 i f) h (head_coe 0 hx hb hw0 ha0 i f)
    ((congrFun (v69_eq x0 x1 x4 x5) (ix2 i f)).trans (head_coe 1 hx hb hw1 ha1 i f))
    ((congrFun (v104_eq x0 x1 x6 x7) (ix2 i f)).trans (head_coe 2 hx hb hw2 ha2 i f))
    ((congrFun (v139_eq x0 x1 x8 x9) (ix2 i f)).trans (head_coe 3 hx hb hw3 ha3 i f))

include hWo
/-- The output layer's features are the network's. -/
theorem who_coe (i : Fin 4096) (o : Fin 121) :
    Read.val_main_v141 (F := Ideal) x0 x1 x2 x3 x4 x5 x6 x7 x8 x9 x10 (ix2 i o) = ((who I i o : ℝ) : EReal) := by
  unfold Read.val_main_v141 Read.val_main_v140
  refine (proj_at _ _ i o).trans ((sum_heads _).trans ?_)
  unfold who
  rw [coe_sum]
  refine Finset.sum_congr rfl fun h _ => ?_
  rw [coe_sum]
  refine Finset.sum_congr rfl fun f _ => ?_
  rw [EReal.coe_mul, ← hWo, ← heads_coe hx hb hw0 ha0 hw1 ha1 hw2 ha2 hw3 ha3 i h f]
  exact congrArg (· * _) (joined_at _ _ _ _ i h f)

include hao
/-- Every entry of the reference's result is the network's. -/
theorem ref_out (i : Fin 4096) (o : Fin 121) :
    Read.val_main_v174 (F := Ideal) x0 x1 x2 x3 x4 x5 x6 x7 x8 x9 x10 x11 (ix2 i o) = ((out I i o : ℝ) : EReal) := by
  have hr : ∀ i j, Read.val_main_v149 (F := Ideal) x0 x1 x2 x3 x4 x5 x6 x7 x8 x9 x10 x11 (ix2 i j) = ((ol I i + orr I j : ℝ) : EReal) := fun i j => by
    rw [v149_at x0 x1 x2 x3 x4 x5 x6 x7 x8 x9 x10 x11 _ rfl]
    unfold ol orr
    simp only [who_coe hx hb hw0 ha0 hw1 ha1 hw2 ha2 hw3 ha3 hWo, hao, ← EReal.coe_mul, ← coe_sum, ← EReal.coe_add]
  refine (v174_at x0 x1 x2 x3 x4 x5 x6 x7 x8 x9 x10 x11 _ rfl i o).trans ?_
  simp only [who_coe hx hb hw0 ha0 hw1 ha1 hw2 ha2 hw3 ha3 hWo]
  refine (attn_row _ x1 i (ol I i) (fun j => orr I j) (fun j => who I j o) (hr i)).trans ?_
  rw [show (fun j => x1 (ix2 i j)) = I.b i from funext (hb i)]
  rfl

end

end Cert.ReferenceIdeal.Layer

end
-- ==== Proof.Agree.lean ====
/- The two results agree: with real arguments, the kernel's and the reference's result arrays are both the network's. -/
module

public import proofs.«01_k».proof.Defs
public import proofs.«01_k».proof.Proof.Finite
public import proofs.«01_k».proof.Proof.KernelLayer2
public import proofs.«01_k».proof.Proof.RefOut
public import proofs.«01_k».proof.Proof.RefFrame

@[expose] public section

set_option maxRecDepth 16384

noncomputable section

open Idealize.ShloMosaic Idealize.ShloMosaic.TcCoe Idealize.SL.Sem

namespace Cert.Proof

open Cert.KernelIdeal Cert.KernelIdeal.Gen Cert.Gat Cert.Pre_finite.Reals

/-- The network's inputs, from the kernel's memory. -/
def inputs (m : (ℓ : Loc nD τ sig) → Buf (Elt Ideal) ℓ) (c : Dev nD) : Inp :=
  inp (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

/-- Under the precondition the kernel's memory holds the network's inputs. -/
theorem holds {m : (ℓ : Loc nD τ sig) → Buf (Elt Ideal) ℓ} (hm : Cert.Pre_KernelIdeal_finite m) (c : Dev nD) :
    Cert.KernelIdeal.Value.Holds m c (inputs m c) := by
  obtain ⟨r0, ⟨r2, r3⟩, ⟨r4, r5⟩, ⟨r6, r7⟩, ⟨r8, r9⟩, r10, r11⟩ := reals (hm c)
  exact {
    x := fun i k => r0 _
    b := fun i j => rfl
    W := fun h k f => match h with | 0 => r2 _ | 1 => r4 _ | 2 => r6 _ | 3 => r8 _
    a := fun h k => match h with | 0 => r3 _ | 1 => r5 _ | 2 => r7 _ | 3 => r9 _
    Wo := fun k o => r10 _
    ao := fun k => r11 _ }

/-- The reference's result over arrays that hold the network's inputs, at an index. -/
theorem ref_at {m : (ℓ : Loc nD τ sig) → Buf (Elt Ideal) ℓ} (hm : Cert.Pre_KernelIdeal_finite m) (c : Dev nD) (i : Fin 4096) (o : Fin 121) :
    (Cert.ReferenceIdeal.Read.val_main_v174 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11)) : FVec Ideal S4096x121 .f32) (ix2 i o)
      = ((out (inputs m c) i o : ℝ) : EReal) := by
  have H := holds hm c
  exact Cert.ReferenceIdeal.Layer.ref_out (I := inputs m c) H.x H.b (H.W 0) (H.a 0) (H.W 1) (H.a 1) (H.W 2) (H.a 2) (H.W 3) (H.a 3) H.Wo H.ao i o

/-- Under the precondition the kernel's result array is the reference's, of the same arguments. -/
theorem agree {m : (ℓ : Loc nD τ sig) → Buf (Elt Ideal) ℓ} (hm : Cert.Pre_KernelIdeal_finite m) (ρ : Dev nD → PrngReg) (c : Dev nD) :
    (Cert.ReferenceIdeal.Read.val_main_v174 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11)) : FVec Ideal S4096x121 .f32)
      = (W7 m ρ c (Proc.devRef .tc main_v50) : FVec Ideal S4096x121 .f32) := by
  funext i
  obtain ⟨p, q, rfl⟩ : ∃ p q, i = ix2 p q := ⟨i 0, i 1, funext fun a => by fin_cases a <;> rfl⟩
  exact (ref_at hm c p q).trans (Cert.KernelIdeal.Value.kernel_out ρ (holds hm c) p q).symm

end Cert.Proof

end
-- ==== Proof.lean ====
module

public import proofs.«01_k».proof.Defs
public import proofs.«01_k».proof.Proof.Gen.Kernel
public import proofs.«01_k».proof.Proof.KernelLaunch
public import proofs.«01_k».proof.Proof.KernelFrame
public import proofs.«01_k».proof.Proof.Gen.KernelIdeal
public import proofs.«01_k».proof.Proof.KernelIdealLaunch
public import proofs.«01_k».proof.Proof.KernelIdealFrame
public import proofs.«01_k».proof.Proof.Gen.ReferenceIdeal
public import proofs.«01_k».proof.Proof.Gen.Pre_finite
public import proofs.«01_k».proof.Proof.RefFrame
public import proofs.«01_k».proof.Proof.Agree
public import Idealize.ShloMosaic.Adequacy
public import Idealize.ShloMosaic.Init

@[expose] public section

noncomputable section

namespace Cert.Proof

open Idealize.ShloMosaic Idealize.SL.Sem

/-- The kernel's frame: it ends, its arguments unchanged, its counters at zero. -/
theorem frame_kernel : Cert.quiescent_Kernel := fun m g _ => Cert.Kernel.Gen.frame m g

/-- The idealized kernel's frame. -/
theorem frame_ideal : Cert.quiescent_KernelIdeal := fun m g _ => Cert.KernelIdeal.Gen.frame m g

/-- The idealized kernel's frame, where the precondition holds. -/
theorem frame_ideal_finite : Cert.quiescent_KernelIdeal_pre_finite := fun m g _ => Cert.KernelIdeal.Gen.frame m g

/-- The reference's frame. -/
theorem frame_reference : Cert.quiescent_ReferenceIdeal := fun m g _ =>
  (θ_run Cert.ReferenceIdeal.defs _ _).mono (fun _ h => ⟨fun c => (h.1 c).2, h.2⟩) (Cert.ReferenceIdeal.Layer.run m g)

/-- The reference's frame, where the precondition holds. -/
theorem frame_reference_finite : Cert.quiescent_ReferenceIdeal_pre_finite := fun m g _ => frame_reference m g trivial

/-- The value claim: with finite arguments, the kernel's result array is the reference's. -/
theorem value : Cert.algebraic_KernelIdeal_ReferenceIdeal_pre_finite := by
  intro m g m' g' hm hargs
  refine ⟨fun c => Cert.KernelIdeal.Gen.W7 m g c (Proc.devRef .tc Cert.KernelIdeal.main_v50),
    (θ_run Cert.KernelIdeal.defs _ _).mono (fun _ h => h.1) (Cert.KernelIdeal.Gen.run m g),
    (θ_run Cert.ReferenceIdeal.defs _ _).mono (fun _ h c => ⟨(h.1 c).1.trans ?_, (h.1 c).2⟩) (Cert.ReferenceIdeal.Layer.run m' g')⟩
  obtain ⟨e0, e1, e2, e3, e4, e5, e6, e7, e8, e9, e10, e11⟩ := hargs c
  refine Eq.trans ?_ (agree hm g c)
  unfold Cert.ReferenceIdeal.Layer.result
  rw [e0, e1, e2, e3, e4, e5, e6, e7, e8, e9, e10, e11]

/-- Every claim of this certificate. -/
theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, trivial, value⟩

end Cert.Proof

end
